-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nonnegative_gates [hPre_finite_nonnegative_gates : Cert.Pre_finite_nonnegative_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nonnegative_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nonnegative_gates [hPre_finite_nonnegative_gates : Cert.Pre_finite_nonnegative_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nonnegative_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_nonnegative_gates [hKernelIdeal : Cert.KernelIdeal.Facts] [hPre_finite_nonnegative_gates : Cert.Pre_finite_nonnegative_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nonnegative_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_nonnegative_gates [hReferenceIdeal : Cert.ReferenceIdeal.Facts] [hPre_finite_nonnegative_gates : Cert.Pre_finite_nonnegative_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nonnegative_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite_nonnegative_gates [hKernelIdeal : Cert.KernelIdeal.Facts] [hReferenceIdeal : Cert.ReferenceIdeal.Facts] [hPre_finite_nonnegative_gates : Cert.Pre_finite_nonnegative_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nonnegative_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v61_0)) (v1 : (c : Dev Cert.Kernel3Ideal.nD) → Buf (Elt Ideal) ((c.tc : Thread Cert.Kernel3Ideal.nD Cert.Kernel3Ideal.τ).loc Cert.Kernel3Ideal.main_v61_3)) (v2 : (c : Dev Cert.Kernel3Ideal.nD) → Buf (Elt Ideal) ((c.tc : Thread Cert.Kernel3Ideal.nD Cert.Kernel3Ideal.τ).loc Cert.Kernel3Ideal.main_v61_4)) (v3 : (c : Dev Cert.Kernel3Ideal.nD) → Buf (Elt Ideal) ((c.tc : Thread Cert.Kernel3Ideal.nD Cert.Kernel3Ideal.τ).loc Cert.Kernel3Ideal.main_v61_5)) (v4 : (c : Dev Cert.Kernel3Ideal.nD) → Buf (Elt Ideal) ((c.tc : Thread Cert.Kernel3Ideal.nD Cert.Kernel3Ideal.τ).loc Cert.Kernel3Ideal.main_v61_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v61_0) = v0 c
          ∧ r.2.mem ((c.tc : Thread Cert.Kernel3Ideal.nD Cert.Kernel3Ideal.τ).loc Cert.Kernel3Ideal.main_v61_3) = v1 c
          ∧ r.2.mem ((c.tc : Thread Cert.Kernel3Ideal.nD Cert.Kernel3Ideal.τ).loc Cert.Kernel3Ideal.main_v61_4) = v2 c
          ∧ r.2.mem ((c.tc : Thread Cert.Kernel3Ideal.nD Cert.Kernel3Ideal.τ).loc Cert.Kernel3Ideal.main_v61_5) = v3 c
          ∧ r.2.mem ((c.tc : Thread Cert.Kernel3Ideal.nD Cert.Kernel3Ideal.τ).loc Cert.Kernel3Ideal.main_v61_6) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v39) = v2 c
          ∧ r.2.mem ((c.tc : Thread Cert.Reference3Ideal.nD Cert.Reference3Ideal.τ).loc Cert.Reference3Ideal.main_v62) = v3 c
          ∧ r.2.mem ((c.tc : Thread Cert.Reference3Ideal.nD Cert.Reference3Ideal.τ).loc Cert.Reference3Ideal.main_v68) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_nonnegative_gates : Cert.Pre_finite_nonnegative_gates.Facts),
    quiescent_Kernel (hKernel := hKernel)
    ∧ quiescent_KernelIdeal (hKernelIdeal := hKernelIdeal)
    ∧ quiescent_KernelIdeal_pre_finite_nonnegative_gates (hKernelIdeal := hKernelIdeal) (hPre_finite_nonnegative_gates := hPre_finite_nonnegative_gates)
    ∧ quiescent_ReferenceIdeal (hReferenceIdeal := hReferenceIdeal)
    ∧ quiescent_ReferenceIdeal_pre_finite_nonnegative_gates (hReferenceIdeal := hReferenceIdeal) (hPre_finite_nonnegative_gates := hPre_finite_nonnegative_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_nonnegative_gates (hKernelIdeal := hKernelIdeal) (hReferenceIdeal := hReferenceIdeal) (hPre_finite_nonnegative_gates := hPre_finite_nonnegative_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_nonnegative_gates.lean ====
abbrev S10240x1024 : Shape := ⟨2, ![10240, 1024]⟩
abbrev S10240x128 : Shape := ⟨2, ![10240, 128]⟩
abbrev S8x1024x3584 : Shape := ⟨3, ![8, 1024, 3584]⟩
abbrev S8x3584x1024 : Shape := ⟨3, ![8, 3584, 1024]⟩
abbrev S10240x8 : Shape := ⟨2, ![10240, 8]⟩
abbrev S_ : Shape := ⟨0, ![]⟩

class Facts : Prop where
  slices_S10240x128_S10240x8_0_0 : S10240x128.Slices ![0, 0] S10240x8
  bcast_S_S10240x8 : S_.BroadcastsInDim S10240x8 (![] : Fin 0 → Fin S10240x8.rank)

variable [Facts]

def fn {F : FTy → Type} [FloatOps F] (main_arg0 : FVec F S10240x1024 .f32) (main_arg1 : FVec F S10240x128 .f32) (main_arg2 : FVec F S8x1024x3584 .f32) (main_arg3 : FVec F S8x1024x3584 .f32) (main_arg4 : FVec F S8x3584x1024 .f32) : IVec S10240x8 1 :=
  let main_v0 : FVec F S10240x8 .f32 := (extractStridedSlice S10240x8 ![0, 0] · slices_S10240x128_S10240x8_0_0) main_arg1
  let main_cst : FVec F S_ .f32 := constant S_ .f32 0x00000000#32
  let main_v1 : FVec F S10240x8 .f32 := broadcastInDim S10240x8 ![] bcast_S_S10240x8 main_cst
  let main_v2 : IVec S10240x8 1 := cmpf .oge main_v0 main_v1
  let main_cst_0 : FVec F S_ .f32 := constant S_ .f32 0x7F800000#32
  let main_v3 : FVec F S10240x8 .f32 := broadcastInDim S10240x8 ![] bcast_S_S10240x8 main_cst_0
  let main_v4 : IVec S10240x8 1 := cmpf .olt main_v0 main_v3
  let main_v5 : IVec S10240x8 1 := andi main_v2 main_v4
  main_v5
-- ==== Kernel.lean ====
abbrev S10240x1024 : Shape := ⟨2, ![10240, 1024]⟩
abbrev S10240x128 : Shape := ⟨2, ![10240, 128]⟩
abbrev S8x1024x3584 : Shape := ⟨3, ![8, 1024, 3584]⟩
abbrev S8x3584x1024 : Shape := ⟨3, ![8, 3584, 1024]⟩
abbrev S10 : Shape := ⟨1, ![10]⟩
abbrev S10x8 : Shape := ⟨2, ![10, 8]⟩
abbrev S80 : Shape := ⟨1, ![80]⟩
abbrev S8 : Shape := ⟨1, ![8]⟩
abbrev S1x8 : Shape := ⟨2, ![1, 8]⟩
abbrev S_ : Shape := ⟨0, ![]⟩
abbrev S1024x1024 : Shape := ⟨2, ![1024, 1024]⟩
abbrev S1 : Shape := ⟨1, ![1]⟩
abbrev S1024x128 : Shape := ⟨2, ![1024, 128]⟩
abbrev S1x1024x512 : Shape := ⟨3, ![1, 1024, 512]⟩
abbrev S1x512x1024 : Shape := ⟨3, ![1, 512, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 18
  | .vmem => 12
  | .smem => 3
  | _ => 0

abbrev bufTy : (tb : Table) → Fin (tcTables nBuf tb) → BufTy
  | .hbm, ⟨0, _⟩ => ⟨S10240x1024, .f32⟩
  | .hbm, ⟨1, _⟩ => ⟨S10240x128, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S10, .i32⟩
  | .hbm, ⟨6, _⟩ => ⟨S10x8, .i32⟩
  | .hbm, ⟨7, _⟩ => ⟨S8, .i32⟩
  | .hbm, ⟨8, _⟩ => ⟨S1x8, .i32⟩
  | .hbm, ⟨9, _⟩ => ⟨S10x8, .i32⟩
  | .hbm, ⟨10, _⟩ => ⟨S_, .i32⟩
  | .hbm, ⟨11, _⟩ => ⟨S80, .i32⟩
  | .hbm, ⟨12, _⟩ => ⟨S80, .i1⟩
  | .hbm, ⟨13, _⟩ => ⟨S10240x1024, .bf16⟩
  | .hbm, ⟨14, _⟩ => ⟨S8x1024x3584, .bf16⟩
  | .hbm, ⟨15, _⟩ => ⟨S8x1024x3584, .bf16⟩
  | .hbm, ⟨16, _⟩ => ⟨S8x3584x1024, .bf16⟩
  | .hbm, ⟨17, _⟩ => ⟨S10240x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .f32⟩
  | .local _ .vmem, ⟨11, _⟩ => ⟨S1024x1024, .f32⟩
  | .local _ .smem, ⟨0, _⟩ => ⟨S80, .i32⟩
  | .local _ .smem, ⟨1, _⟩ => ⟨S80, .i32⟩
  | .local _ .smem, ⟨2, _⟩ => ⟨S80, .i32⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v2 : Ref sig .tc := ⟨.smem, 0, rfl⟩
abbrev main_v6 : Ref sig .tc := ⟨.smem, 1, rfl⟩
abbrev main_v9 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![80, 7], ![false, false]⟩

abbrev pre0 : Pipeline.Prefetch sig := ⟨3, ![main_v2.idx, main_v6.idx, main_v9.idx], fun | 0 => main_v2.names | 1 => main_v6.names | 2 => main_v9.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v35 : BitVec 32) : BitVec 1 :=
  let arg1 : BitVec 32 := BitVec.ofNat 32 (i 1).val
  let c0_i32 : BitVec 32 := 0#32
  let v33 : BitVec 1 := Scalar.cmpi .eq arg1 c0_i32
  let c1_i32 : BitVec 32 := 1#32
  let v36 : BitVec 1 := Scalar.cmpi .eq v35 c1_i32
  let v37 : BitVec 1 := Scalar.andi v33 v36
  let v38 : BitVec 32 := Scalar.extui v37
  let c0_i32_19 : BitVec 32 := 0#32
  let v39 : BitVec 1 := Scalar.cmpi .ne v38 c0_i32_19
  v39

def k0_cond2 (i : grid0.Coords) (v35 : BitVec 32) : BitVec 1 :=
  let arg1 : BitVec 32 := BitVec.ofNat 32 (i 1).val
  let c0_i32 : BitVec 32 := 0#32
  let v33 : BitVec 1 := Scalar.cmpi .eq arg1 c0_i32
  let c1_i32 : BitVec 32 := 1#32
  let v36 : BitVec 1 := Scalar.cmpi .eq v35 c1_i32
  let v37 : BitVec 1 := Scalar.andi v33 v36
  let v_true : BitVec 1 := 1#1
  let v40 : BitVec 1 := Scalar.xori v37 v_true
  let v41 : BitVec 32 := Scalar.extui v40
  let c0_i32_20 : BitVec 32 := 0#32
  let v42 : BitVec 1 := Scalar.cmpi .ne v41 c0_i32_20
  v42

def cc0_transform_0 (k0_off1_inb : ∀ i : grid0.Coords, ∀ a, (k0_off1 i) a + S1.size a ≤ S80.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S80) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S80) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S80) ![v0.toNat] S1.size (k0_off1_inb i)) numel1_S1
  let c0_i32 : BitVec 32 := 0#32
  let c0_i32_0 : BitVec 32 := 0#32
  ![v1.toNat, arg1.toNat, c0_i32.toNat]

def cc0_transform_5 (k0_off1_inb : ∀ i : grid0.Coords, ∀ a, (k0_off1 i) a + S1.size a ≤ S80.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S10240x1024 : Shape := ⟨2, ![10240, 1024]⟩
abbrev S10240x128 : Shape := ⟨2, ![10240, 128]⟩
abbrev S8x1024x3584 : Shape := ⟨3, ![8, 1024, 3584]⟩
abbrev S8x3584x1024 : Shape := ⟨3, ![8, 3584, 1024]⟩
abbrev S_ : Shape := ⟨0, ![]⟩
abbrev S10240x1 : Shape := ⟨2, ![10240, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S10240x3584 : Shape := ⟨2, ![10240, 3584]⟩

abbrev nBuf : Space → Nat
  | .hbm => 191
  | .vmem => 0
  | .smem => 0
  | _ => 0

abbrev hbmTy0_0 (i : Nat) : BufTy := match i % 128 with
  | 0 => ⟨S10240x1024, .f32⟩
  | 1 => ⟨S10240x128, .f32⟩
  | 2 => ⟨S8x1024x3584, .f32⟩
  | 3 => ⟨S8x1024x3584, .f32⟩
  | 4 => ⟨S8x3584x1024, .f32⟩
  | 5 => ⟨S_, .f32⟩
  | 6 => ⟨S10240x1024, .f32⟩
  | 7 => ⟨S10240x1, .f32⟩
  | 8 => ⟨S1x1024x3584, .f32⟩
  | 9 => ⟨S1024x3584, .f32⟩
  | 10 => ⟨S1x1024x3584, .f32⟩
  | 11 => ⟨S1024x3584, .f32⟩
  | 12 => ⟨S1x3584x1024, .f32⟩
  | 13 => ⟨S3584x1024, .f32⟩
  | 14 => ⟨S10240x3584, .f32⟩
  | 15 => ⟨S10240x3584, .f32⟩
  | 16 => ⟨S10240x3584, .f32⟩
  | 17 => ⟨S_, .f32⟩
  | 18 => ⟨S10240x3584, .f32⟩
  | 19 => ⟨S10240x3584, .f32⟩
  | 20 => ⟨S_, .f32⟩
  | 21 => ⟨S10240x3584, .f32⟩
  | 22 => ⟨S10240x3584, .f32⟩
  | 23 => ⟨S10240x3584, .f32⟩
  | 24 => ⟨S10240x3584, .f32⟩
  | 25 => ⟨S10240x3584, .f32⟩
  | 26 => ⟨S10240x1024, .f32⟩
  | 27 => ⟨S10240x1024, .f32⟩
  | 28 => ⟨S10240x1024, .f32⟩
  | 29 => ⟨S10240x1024, .f32⟩
  | 30 => ⟨S10240x1, .f32⟩
  | 31 => ⟨S1x1024x3584, .f32⟩
  | 32 => ⟨S1024x3584, .f32⟩
  | 33 => ⟨S1x1024x3584, .f32⟩
  | 34 => ⟨S1024x3584, .f32⟩
  | 35 => ⟨S1x3584x1024, .f32⟩
  | 36 => ⟨S3584x1024, .f32⟩
  | 37 => ⟨S10240x3584, .f32⟩
  | 38 => ⟨S10240x3584, .f32⟩
  | 39 => ⟨S10240x3584, .f32⟩
  | 40 => ⟨S_, .f32⟩
  | 41 => ⟨S10240x3584, .f32⟩
  | 42 => ⟨S10240x3584, .f32⟩
  | 43 => ⟨S_, .f32⟩
  | 44 => ⟨S10240x3584, .f32⟩
  | 45 => ⟨S10240x3584, .f32⟩
  | 46 => ⟨S10240x3584, .f32⟩
  | 47 => ⟨S10240x3584, .f32⟩
  | 48 => ⟨S10240x3584, .f32⟩
  | 49 => ⟨S10240x1024, .f32⟩
  | 50 => ⟨S10240x1024, .f32⟩
  | 51 => ⟨S10240x1024, .f32⟩
  | 52 => ⟨S10240x1024, .f32⟩
  | 53 => ⟨S10240x1, .f32⟩
  | 54 => ⟨S1x1024x3584, .f32⟩
  | 55 => ⟨S1024x3584, .f32⟩
  | 56 => ⟨S1x1024x3584, .f32⟩
  | 57 => ⟨S1024x3584, .f32⟩
  | 58 => ⟨S1x3584x1024, .f32⟩
  | 59 => ⟨S3584x1024, .f32⟩
  | 60 => ⟨S10240x3584, .f32⟩
  | 61 => ⟨S10240x3584, .f32⟩
  | 62 => ⟨S10240x3584, .f32⟩
  | 63 => ⟨S_, .f32⟩
  | 64 => ⟨S10240x3584, .f32⟩
  | 65 => ⟨S10240x3584, .f32⟩
  | 66 => ⟨S_, .f32⟩
  | 67 => ⟨S10240x3584, .f32⟩
  | 68 => ⟨S10240x3584, .f32⟩
  | 69 => ⟨S10240x3584, .f32⟩
  | 70 => ⟨S10240x3584, .f32⟩
  | 71 => ⟨S10240x3584, .f32⟩
  | 72 => ⟨S10240x1024, .f32⟩
  | 73 => ⟨S10240x1024, .f32⟩
  | 74 => ⟨S10240x1024, .f32⟩
  | 75 => ⟨S10240x1024, .f32⟩
  | 76 => ⟨S10240x1, .f32⟩
  | 77 => ⟨S1x1024x3584, .f32⟩
  | 78 => ⟨S1024x3584, .f32⟩
  | 79 => ⟨S1x1024x3584, .f32⟩
  | 80 => ⟨S1024x3584, .f32⟩
  | 81 => ⟨S1x3584x1024, .f32⟩
  | 82 => ⟨S3584x1024, .f32⟩
  | 83 => ⟨S10240x3584, .f32⟩
  | 84 => ⟨S10240x3584, .f32⟩
  | 85 => ⟨S10240x3584, .f32⟩
  | 86 => ⟨S_, .f32⟩
  | 87 => ⟨S10240x3584, .f32⟩
  | 88 => ⟨S10240x3584, .f32⟩
  | 89 => ⟨S_, .f32⟩
  | 90 => ⟨S10240x3584, .f32⟩
  | 91 => ⟨S10240x3584, .f32⟩
  | 92 => ⟨S10240x3584, .f32⟩
  | 93 => ⟨S10240x3584, .f32⟩
  | 94 => ⟨S10240x3584, .f32⟩
  | 95 => ⟨S10240x1024, .f32⟩
  | 96 => ⟨S10240x1024, .f32⟩
  | 97 => ⟨S10240x1024, .f32⟩
  | 98 => ⟨S10240x1024, .f32⟩
  | 99 => ⟨S10240x1, .f32⟩
  | 100 => ⟨S1x1024x3584, .f32⟩
  | 101 => ⟨S1024x3584, .f32⟩
  | 102 => ⟨S1x1024x3584, .f32⟩
  | 103 => ⟨S1024x3584, .f32⟩
  | 104 => ⟨S1x3584x1024, .f32⟩
  | 105 => ⟨S3584x1024, .f32⟩
  | 106 => ⟨S10240x3584, .f32⟩
  | 107 => ⟨S10240x3584, .f32⟩
  | 108 => ⟨S10240x3584, .f32⟩
  | 109 => ⟨S_, .f32⟩
  | 110 => ⟨S10240x3584, .f32⟩
  | 111 => ⟨S10240x3584, .f32⟩
  | 112 => ⟨S_, .f32⟩
  | 113 => ⟨S10240x3584, .f32⟩
  | 114 => ⟨S10240x3584, .f32⟩
  | 115 => ⟨S10240x3584, .f32⟩
  | 116 => ⟨S10240x3584, .f32⟩
  | 117 => ⟨S10240x3584, .f32⟩
  | 118 => ⟨S10240x1024, .f32⟩
  | 119 => ⟨S10240x1024, .f32⟩
  | 120 => ⟨S10240x1024, .f32⟩
  | 121 => ⟨S10240x1024, .f32⟩
  | 122 => ⟨S10240x1, .f32⟩
  | 123 => ⟨S1x1024x3584, .f32⟩
  | 124 => ⟨S1024x3584, .f32⟩
  | 125 => ⟨S1x1024x3584, .f32⟩
  | 126 => ⟨S1024x3584, .f32⟩
  | 127 => ⟨S1x3584x1024, .f32⟩
  | _ => ⟨S10240x1024, .f32⟩

abbrev hbmTy0_1 (i : Nat) : BufTy := match i % 128 with
  | 0 => ⟨S3584x1024, .f32⟩
  | 1 => ⟨S10240x3584, .f32⟩
  | 2 => ⟨S10240x3584, .f32⟩
  | 3 => ⟨S10240x3584, .f32⟩
  | 4 => ⟨S_, .f32⟩
  | 5 => ⟨S10240x3584, .f32⟩
  | 6 => ⟨S10240x3584, .f32⟩
  | 7 => ⟨S_, .f32⟩
  | 8 => ⟨S10240x3584, .f32⟩
  | 9 => ⟨S10240x3584, .f32⟩
  | 10 => ⟨S10240x3584, .f32⟩
  | 11 => ⟨S10240x3584, .f32⟩
  | 12 => ⟨S10240x3584, .f32⟩
  | 13 => ⟨S10240x1024, .f32⟩
  | 14 => ⟨S10240x1024, .f32⟩
  | 15 => ⟨S10240x1024, .f32⟩
  | 16 => ⟨S10240x1024, .f32⟩
  | 17 => ⟨S10240x1, .f32⟩
  | 18 => ⟨S1x1024x3584, .f32⟩
  | 19 => ⟨S1024x3584, .f32⟩
  | 20 => ⟨S1x1024x3584, .f32⟩
  | 21 => ⟨S1024x3584, .f32⟩
  | 22 => ⟨S1x3584x1024, .f32⟩
  | 23 => ⟨S3584x1024, .f32⟩
  | 24 => ⟨S10240x3584, .f32⟩
  | 25 => ⟨S10240x3584, .f32⟩
  | 26 => ⟨S10240x3584, .f32⟩
  | 27 => ⟨S_, .f32⟩
  | 28 => ⟨S10240x3584, .f32⟩
  | 29 => ⟨S10240x3584, .f32⟩
  | 30 => ⟨S_, .f32⟩
  | 31 => ⟨S10240x3584, .f32⟩
  | 32 => ⟨S10240x3584, .f32⟩
  | 33 => ⟨S10240x3584, .f32⟩
  | 34 => ⟨S10240x3584, .f32⟩
  | 35 => ⟨S10240x3584, .f32⟩
  | 36 => ⟨S10240x1024, .f32⟩
  | 37 => ⟨S10240x1024, .f32⟩
  | 38 => ⟨S10240x1024, .f32⟩
  | 39 => ⟨S10240x1024, .f32⟩
  | 40 => ⟨S10240x1, .f32⟩
  | 41 => ⟨S1x1024x3584, .f32⟩
  | 42 => ⟨S1024x3584, .f32⟩
  | 43 => ⟨S1x1024x3584, .f32⟩
  | 44 => ⟨S1024x3584, .f32⟩
  | 45 => ⟨S1x3584x1024, .f32⟩
  | 46 => ⟨S3584x1024, .f32⟩
  | 47 => ⟨S10240x3584, .f32⟩
  | 48 => ⟨S10240x3584, .f32⟩
  | 49 => ⟨S10240x3584, .f32⟩
  | 50 => ⟨S_, .f32⟩
  | 51 => ⟨S10240x3584, .f32⟩
  | 52 => ⟨S10240x3584, .f32⟩
  | 53 => ⟨S_, .f32⟩
  | 54 => ⟨S10240x3584, .f32⟩
  | 55 => ⟨S10240x3584, .f32⟩
  | 56 => ⟨S10240x3584, .f32⟩
  | 57 => ⟨S10240x3584, .f32⟩
  | 58 => ⟨S10240x3584, .f32⟩
  | 59 => ⟨S10240x1024, .f32⟩
  | 60 => ⟨S10240x1024, .f32⟩
  | 61 => ⟨S10240x1024, .f32⟩
  | 62 => ⟨S10240x1024, .f32⟩
  | _ => ⟨S10240x1024, .f32⟩

abbrev hbmTy (i : Nat) : BufTy := match i / 128 with
  | 0 => hbmTy0_0 i
  | 1 => hbmTy0_1 i
  | _ => ⟨S10240x1024, .f32⟩

abbrev bufTy : (tb : Table) → Fin (tcTables nBuf tb) → BufTy
  | .hbm, ⟨i, _⟩ => hbmTy i
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call3_v0 : Ref sig .tc := ⟨.hbm, 84, rfl⟩
abbrev main_call3_v1 : Ref sig .tc := ⟨.hbm, 85, rfl⟩
abbrev main_call3_cst : Ref sig .tc := ⟨.hbm, 86, rfl⟩
abbrev main_call3_v2 : Ref sig .tc := ⟨.hbm, 87, rfl⟩
abbrev main_call3_v3 : Ref sig .tc := ⟨.hbm, 88, rfl⟩
abbrev main_call3_cst_0 : Ref sig .tc := ⟨.hbm, 89, rfl⟩
abbrev main_call3_v4 : Ref sig .tc := ⟨.hbm, 90, rfl⟩
abbrev main_call3_v5 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call4_v0 : Ref sig .tc := ⟨.hbm, 107, rfl⟩
abbrev main_call4_v1 : Ref sig .tc := ⟨.hbm, 108, rfl⟩
abbrev main_call4_cst : Ref sig .tc := ⟨.hbm, 109, rfl⟩
abbrev main_call4_v2 : Ref sig .tc := ⟨.hbm, 110, rfl⟩
abbrev main_call4_v3 : Ref sig .tc := ⟨.hbm, 111, rfl⟩
abbrev main_call4_cst_0 : Ref sig .tc := ⟨.hbm, 112, rfl⟩
abbrev main_call4_v4 : Ref sig .tc := ⟨.hbm, 113, rfl⟩
abbrev main_call4_v5 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_call5_v0 : Ref sig .tc := ⟨.hbm, 130, rfl⟩
abbrev main_call5_v1 : Ref sig .tc := ⟨.hbm, 131, rfl⟩
abbrev main_call5_cst : Ref sig .tc := ⟨.hbm, 132, rfl⟩
abbrev main_call5_v2 : Ref sig .tc := ⟨.hbm, 133, rfl⟩
abbrev main_call5_v3 : Ref sig .tc := ⟨.hbm, 134, rfl⟩
abbrev main_call5_cst_0 : Ref sig .tc := ⟨.hbm, 135, rfl⟩
abbrev main_call5_v4 : Ref sig .tc := ⟨.hbm, 136, rfl⟩
abbrev main_call5_v5 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_call6_v0 : Ref sig .tc := ⟨.hbm, 153, rfl⟩
abbrev main_call6_v1 : Ref sig .tc := ⟨.hbm, 154, rfl⟩
abbrev main_call6_cst : Ref sig .tc := ⟨.hbm, 155, rfl⟩
abbrev main_call6_v2 : Ref sig .tc := ⟨.hbm, 156, rfl⟩
abbrev main_call6_v3 : Ref sig .tc := ⟨.hbm, 157, rfl⟩
abbrev main_call6_cst_0 : Ref sig .tc := ⟨.hbm, 158, rfl⟩
abbrev main_call6_v4 : Ref sig .tc := ⟨.hbm, 159, rfl⟩
abbrev main_call6_v5 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_call7_v0 : Ref sig .tc := ⟨.hbm, 176, rfl⟩
abbrev main_call7_v1 : Ref sig .tc := ⟨.hbm, 177, rfl⟩
abbrev main_call7_cst : Ref sig .tc := ⟨.hbm, 178, rfl⟩
abbrev main_call7_v2 : Ref sig .tc := ⟨.hbm, 179, rfl⟩
abbrev main_call7_v3 : Ref sig .tc := ⟨.hbm, 180, rfl⟩
abbrev main_call7_cst_0 : Ref sig .tc := ⟨.hbm, 181, rfl⟩
abbrev main_call7_v4 : Ref sig .tc := ⟨.hbm, 182, rfl⟩
abbrev main_call7_v5 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩

abbrev nD : Nat := 1
abbrev τ : Topo := Topo.v7x

variable {F : FTy → Type} [FloatOps F]
-- ==== Kernel2.lean ====
abbrev S10240x1024 : Shape := ⟨2, ![10240, 1024]⟩
abbrev S3x6x1024 : Shape := ⟨3, ![3, 6, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S6x1024 : Shape := ⟨2, ![6, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S10240x1024, .f32⟩
  | .hbm, ⟨1, _⟩ => ⟨S10240x1024, .f32⟩
  | .hbm, ⟨2, _⟩ => ⟨S3x6x1024, .f32⟩
  | .hbm, ⟨3, _⟩ => ⟨S1024, .f32⟩
  | .hbm, ⟨4, _⟩ => ⟨S1x1024, .f32⟩
  | .hbm, ⟨5, _⟩ => ⟨S10240x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S10240x1024 : Shape := ⟨2, ![10240, 1024]⟩
abbrev S3x6x1024 : Shape := ⟨3, ![3, 6, 1024]⟩
abbrev S1024 : Shape := ⟨1, ![1024]⟩
abbrev S1x1x1024 : Shape := ⟨3, ![1, 1, 1024]⟩
abbrev S8192x1024 : Shape := ⟨2, ![8192, 1024]⟩
abbrev S2x1x1024 : Shape := ⟨3, ![2, 1, 1024]⟩
abbrev S2x1024 : Shape := ⟨2, ![2, 1024]⟩
abbrev S2x1024x1024 : Shape := ⟨3, ![2, 1024, 1024]⟩
abbrev S2048x1024 : Shape := ⟨2, ![2048, 1024]⟩
abbrev S_ : Shape := ⟨0, ![]⟩
abbrev S10240 : Shape := ⟨1, ![10240]⟩
abbrev S10240x1 : Shape := ⟨2, ![10240, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S10240x1024, .f32⟩
  | .hbm, ⟨1, _⟩ => ⟨S10240x1024, .f32⟩
  | .hbm, ⟨2, _⟩ => ⟨S3x6x1024, .f32⟩
  | .hbm, ⟨3, _⟩ => ⟨S1024, .f32⟩
  | .hbm, ⟨4, _⟩ => ⟨S1x1x1024, .f32⟩
  | .hbm, ⟨5, _⟩ => ⟨S1024, .f32⟩
  | .hbm, ⟨6, _⟩ => ⟨S8192x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1024x1024, .f32⟩
  | .hbm, ⟨11, _⟩ => ⟨S2048x1024, .f32⟩
  | .hbm, ⟨12, _⟩ => ⟨S10240x1024, .f32⟩
  | .hbm, ⟨13, _⟩ => ⟨S10240x1024, .f32⟩
  | .hbm, ⟨14, _⟩ => ⟨S10240x1024, .f32⟩
  | .hbm, ⟨15, _⟩ => ⟨S10240x1024, .f32⟩
  | .hbm, ⟨16, _⟩ => ⟨S_, .f32⟩
  | .hbm, ⟨17, _⟩ => ⟨S10240, .f32⟩
  | .hbm, ⟨18, _⟩ => ⟨S10240x1, .f32⟩
  | .hbm, ⟨19, _⟩ => ⟨S_, .f32⟩
  | .hbm, ⟨20, _⟩ => ⟨S10240x1, .f32⟩
  | .hbm, ⟨21, _⟩ => ⟨S10240x1, .f32⟩
  | .hbm, ⟨22, _⟩ => ⟨S_, .f32⟩
  | .hbm, ⟨23, _⟩ => ⟨S10240x1, .f32⟩
  | .hbm, ⟨24, _⟩ => ⟨S10240x1, .f32⟩
  | .hbm, ⟨25, _⟩ => ⟨S10240x1, .f32⟩
  | .hbm, ⟨26, _⟩ => ⟨S10240x1024, .f32⟩
  | .hbm, ⟨27, _⟩ => ⟨S10240x1024, .f32⟩
  | .hbm, ⟨28, _⟩ => ⟨S1x1024, .f32⟩
  | .hbm, ⟨29, _⟩ => ⟨S10240x1024, .f32⟩
  | .hbm, ⟨30, _⟩ => ⟨S10240x1024, .f32⟩
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel3.lean ====
abbrev S10240x1024 : Shape := ⟨2, ![10240, 1024]⟩
abbrev S3x6x1024 : Shape := ⟨3, ![3, 6, 1024]⟩
abbrev S1024 : Shape := ⟨1, ![1024]⟩
abbrev S1024x4096 : Shape := ⟨2, ![1024, 4096]⟩
abbrev S64 : Shape := ⟨1, ![64]⟩
abbrev S16 : Shape := ⟨1, ![16]⟩
abbrev S16x64 : Shape := ⟨2, ![16, 64]⟩
abbrev S1x64 : Shape := ⟨2, ![1, 64]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S1024x32 : Shape := ⟨2, ![1024, 32]⟩
abbrev S1024x64 : Shape := ⟨2, ![1024, 64]⟩
abbrev S1x1024x1x64 : Shape := ⟨4, ![1, 1024, 1, 64]⟩
abbrev S1x1024x2x64 : Shape := ⟨4, ![1, 1024, 2, 64]⟩
abbrev S1024x128 : Shape := ⟨2, ![1024, 128]⟩
abbrev S512x128 : Shape := ⟨2, ![512, 128]⟩
abbrev S1536x128 : Shape := ⟨2, ![1536, 128]⟩
abbrev S1x1024 : Shape := ⟨2, ![1, 1024]⟩
abbrev S1024x1024 : Shape := ⟨2, ![1024, 1024]⟩
abbrev S4x64 : Shape := ⟨2, ![4, 64]⟩
abbrev S256 : Shape := ⟨1, ![256]⟩
abbrev S1x256 : Shape := ⟨2, ![1, 256]⟩
abbrev S10240x512 : Shape := ⟨2, ![10240, 512]⟩
abbrev S10240x256 : Shape := ⟨2, ![10240, 256]⟩
abbrev S512x1024 : Shape := ⟨2, ![512, 1024]⟩
abbrev S1x6x1024 : Shape := ⟨3, ![1, 6, 1024]⟩
abbrev S512x512 : Shape := ⟨2, ![512, 512]⟩
abbrev S512x256 : Shape := ⟨2, ![512, 256]⟩
abbrev S6x1024 : Shape := ⟨2, ![6, 1024]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S256x256 : Shape := ⟨2, ![256, 256]⟩

abbrev nBuf : Space → Nat
  | .hbm => 97
  | .vmem => 27
  | .smem => 0
  | _ => 0

abbrev bufTy : (tb : Table) → Fin (tcTables nBuf tb) → BufTy
  | .hbm, ⟨0, _⟩ => ⟨S10240x1024, .f32⟩
  | .hbm, ⟨1, _⟩ => ⟨S3x6x1024, .f32⟩
  | .hbm, ⟨2, _⟩ => ⟨S1024, .f32⟩
  | .hbm, ⟨3, _⟩ => ⟨S1024x4096, .f32⟩
  | .hbm, ⟨4, _⟩ => ⟨S64, .f32⟩
  | .hbm, ⟨5, _⟩ => ⟨S64, .f32⟩
  | .hbm, ⟨6, _⟩ => ⟨S16, .f32⟩
  | .hbm, ⟨7, _⟩ => ⟨S16x64, .f32⟩
  | .hbm, ⟨8, _⟩ => ⟨S1024, .f32⟩
  | .hbm, ⟨9, _⟩ => ⟨S64, .f32⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S1024x1, .f32⟩
  | .hbm, ⟨28, _⟩ => ⟨S1x16, .f32⟩
  | .hbm, ⟨29, _⟩ => ⟨S1024x16, .f32⟩
  | .hbm, ⟨30, _⟩ => ⟨S1024x16, .f32⟩
  | .hbm, ⟨31, _⟩ => ⟨S1024x16, .f32⟩
  | .hbm, ⟨32, _⟩ => ⟨S1024x1, .f32⟩
  | .hbm, ⟨33, _⟩ => ⟨S1x16, .f32⟩
  | .hbm, ⟨34, _⟩ => ⟨S1024x16, .f32⟩
  | .hbm, ⟨35, _⟩ => ⟨S1024x16, .f32⟩
  | .hbm, ⟨36, _⟩ => ⟨S1024x16, .f32⟩
  | .hbm, ⟨37, _⟩ => ⟨S1024x32, .f32⟩
  | .hbm, ⟨38, _⟩ => ⟨S1024x32, .f32⟩
  | .hbm, ⟨39, _⟩ => ⟨S1024x32, .f32⟩
  | .hbm, ⟨40, _⟩ => ⟨S1024x64, .f32⟩
  | .hbm, ⟨41, _⟩ => ⟨S1x1024x1x64, .f32⟩
  | .hbm, ⟨42, _⟩ => ⟨S1x1024x2x64, .f32⟩
  | .hbm, ⟨43, _⟩ => ⟨S1024x128, .f32⟩
  | .hbm, ⟨44, _⟩ => ⟨S1024x32, .f32⟩
  | .hbm, ⟨45, _⟩ => ⟨S1024x64, .f32⟩
  | .hbm, ⟨46, _⟩ => ⟨S1x1024x1x64, .f32⟩
  | .hbm, ⟨47, _⟩ => ⟨S1x1024x2x64, .f32⟩
  | .hbm, ⟨48, _⟩ => ⟨S1024x128, .f32⟩
  | .hbm, ⟨49, _⟩ => ⟨S_, .f32⟩
  | .hbm, ⟨50, _⟩ => ⟨S512x128, .f32⟩
  | .hbm, ⟨51, _⟩ => ⟨S_, .f32⟩
  | .hbm, ⟨52, _⟩ => ⟨S512x128, .f32⟩
  | .hbm, ⟨53, _⟩ => ⟨S1536x128, .f32⟩
  | .hbm, ⟨54, _⟩ => ⟨S1536x128, .f32⟩
  | .hbm, ⟨55, _⟩ => ⟨S1024, .i32⟩
  | .hbm, ⟨56, _⟩ => ⟨S_, .i32⟩
  | .hbm, ⟨57, _⟩ => ⟨S_, .i32⟩
  | .hbm, ⟨58, _⟩ => ⟨S1024, .i32⟩
  | .hbm, ⟨59, _⟩ => ⟨S1024, .i32⟩
  | .hbm, ⟨60, _⟩ => ⟨S1024, .i32⟩
  | .hbm, ⟨61, _⟩ => ⟨S_, .i32⟩
  | .hbm, ⟨62, _⟩ => ⟨S1024, .i32⟩
  | .hbm, ⟨63, _⟩ => ⟨S1024, .i1⟩
  | .hbm, ⟨64, _⟩ => ⟨S1024, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i1⟩
  | .hbm, ⟨69, _⟩ => ⟨S1024, .i1⟩
  | .hbm, ⟨70, _⟩ => ⟨S_, .i32⟩
  | .hbm, ⟨71, _⟩ => ⟨S1024, .i32⟩
  | .hbm, ⟨72, _⟩ => ⟨S1024, .i32⟩
  | .hbm, ⟨73, _⟩ => ⟨S1024, .i32⟩
  | .hbm, ⟨74, _⟩ => ⟨S1024x1, .i32⟩
  | .hbm, ⟨75, _⟩ => ⟨S1x1024, .i32⟩
  | .hbm, ⟨76, _⟩ => ⟨S1024x1024, .i32⟩
  | .hbm, ⟨77, _⟩ => ⟨S1024x1024, .i32⟩
  | .hbm, ⟨78, _⟩ => ⟨S1024x1024, .i1⟩
  | .hbm, ⟨79, _⟩ => ⟨S1024x1024, .bf16⟩
  | .hbm, ⟨80, _⟩ => ⟨S1x1024, .f32⟩
  | .hbm, ⟨81, _⟩ => ⟨S1024x4096, .bf16⟩
  | .hbm, ⟨82, _⟩ => ⟨S1x64, .f32⟩
  | .hbm, ⟨83, _⟩ => ⟨S16x64, .f32⟩
  | .hbm, ⟨84, _⟩ => ⟨S1024, .f32⟩
  | .hbm, ⟨85, _⟩ => ⟨S1x1024, .f32⟩
  | .hbm, ⟨86, _⟩ => ⟨S1x64, .f32⟩
  | .hbm, ⟨87, _⟩ => ⟨S4x64, .f32⟩
  | .hbm, ⟨88, _⟩ => ⟨S256, .f32⟩
  | .hbm, ⟨89, _⟩ => ⟨S1x256, .f32⟩
  | .hbm, ⟨90, _⟩ => ⟨S10240x512, .f32⟩
  | .hbm, ⟨91, _⟩ => ⟨S10240x1024, .bf16⟩
  | .hbm, ⟨92, _⟩ => ⟨S10240x256, .f32⟩
  | .hbm, ⟨93, _⟩ => ⟨S10240x256, .f32⟩
  | .hbm, ⟨94, _⟩ => ⟨S10240x256, .f32⟩
  | .hbm, ⟨95, _⟩ => ⟨S10240x1024, .f32⟩
  | .hbm, ⟨96, _⟩ => ⟨S10240x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4096, .bf16⟩
  | .local _ .vmem, ⟨6, _⟩ => ⟨S1024x1024, .bf16⟩
  | .local _ .vmem, ⟨7, _⟩ => ⟨S1x1024, .f32⟩
  | .local _ .vmem, ⟨8, _⟩ => ⟨S1x256, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S512x1024, .bf16⟩
  | .local _ .vmem, ⟨16, _⟩ => ⟨S512x1024, .bf16⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_c : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_0 : Ref sig .tc := ⟨.hbm, 70, rfl⟩
abbrev main_call0_v12 : Ref sig .tc := ⟨.hbm, 71, rfl⟩
abbrev main_call0_v13 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61_0 : Ref sig .tc := ⟨.hbm, 90, rfl⟩
abbrev main_v61_1 : Ref sig .tc := ⟨.hbm, 91, rfl⟩
abbrev main_v61_2 : Ref sig .tc := ⟨.hbm, 92, rfl⟩
abbrev main_v61_3 : Ref sig .tc := ⟨.hbm, 93, rfl⟩
abbrev main_v61_4 : Ref sig .tc := ⟨.hbm, 94, rfl⟩
abbrev main_v61_5 : Ref sig .tc := ⟨.hbm, 95, rfl⟩
abbrev main_v61_6 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_8 (i : grid0.Coords) : Fin 2 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c1_i32_4 : BitVec 32 := 1#32
  let v12 : BitVec 32 := Scalar.addi c1_i32_4 v11
  let c0_i32_5 : BitVec 32 := 0#32
  let v13 : BitVec 32 := Scalar.select v0 c0_i32_5 v12
  let c0_i32_6 : BitVec 32 := 0#32
  let c0_i32_7 : BitVec 32 := 0#32
  ![v13.toNat, c0_i32_6.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S10240x1024 : Shape := ⟨2, ![10240, 1024]⟩
abbrev S3x6x1024 : Shape := ⟨3, ![3, 6, 1024]⟩
abbrev S1024 : Shape := ⟨1, ![1024]⟩
abbrev S1024x4096 : Shape := ⟨2, ![1024, 4096]⟩
abbrev S64 : Shape := ⟨1, ![64]⟩
abbrev S_ : Shape := ⟨0, ![]⟩
abbrev S10240 : Shape := ⟨1, ![10240]⟩
abbrev S10240x1 : Shape := ⟨2, ![10240, 1]⟩
abbrev S1x1024 : Shape := ⟨2, ![1, 1024]⟩
abbrev S1x1x1024 : Shape := ⟨3, ![1, 1, 1024]⟩
abbrev S8192x1024 : Shape := ⟨2, ![8192, 1024]⟩
abbrev S2x1x1024 : Shape := ⟨3, ![2, 1, 1024]⟩
abbrev S2x1024 : Shape := ⟨2, ![2, 1024]⟩
abbrev S2x1024x1024 : Shape := ⟨3, ![2, 1024, 1024]⟩
abbrev S2048x1024 : Shape := ⟨2, ![2048, 1024]⟩
abbrev S10240x4096 : Shape := ⟨2, ![10240, 4096]⟩
abbrev S10240x512 : Shape := ⟨2, ![10240, 512]⟩
abbrev S10240x256 : Shape := ⟨2, ![10240, 256]⟩
abbrev S10240x4x64 : Shape := ⟨3, ![10240, 4, 64]⟩
abbrev S10240x4 : Shape := ⟨2, ![10240, 4]⟩
abbrev S10240x4x1 : Shape := ⟨3, ![10240, 4, 1]⟩
abbrev S1x1x64 : Shape := ⟨3, ![1, 1, 64]⟩

abbrev nBuf : Space → Nat
  | .hbm => 86
  | .vmem => 0
  | .smem => 0
  | _ => 0

abbrev bufTy : (tb : Table) → Fin (tcTables nBuf tb) → BufTy
  | .hbm, ⟨0, _⟩ => ⟨S10240x1024, .f32⟩
  | .hbm, ⟨1, _⟩ => ⟨S3x6x1024, .f32⟩
  | .hbm, ⟨2, _⟩ => ⟨S1024, .f32⟩
  | .hbm, ⟨3, _⟩ => ⟨S1024x4096, .f32⟩
  | .hbm, ⟨4, _⟩ => ⟨S64, .f32⟩
  | .hbm, ⟨5, _⟩ => ⟨S64, .f32⟩
  | .hbm, ⟨6, _⟩ => ⟨S10240x1024, .f32⟩
  | .hbm, ⟨7, _⟩ => ⟨S_, .f32⟩
  | .hbm, ⟨8, _⟩ => ⟨S10240, .f32⟩
  | .hbm, ⟨9, _⟩ => ⟨S10240x1, .f32⟩
  | .hbm, ⟨10, _⟩ => ⟨S_, .f32⟩
  | .hbm, ⟨11, _⟩ => ⟨S10240x1, .f32⟩
  | .hbm, ⟨12, _⟩ => ⟨S10240x1, .f32⟩
  | .hbm, ⟨13, _⟩ => ⟨S_, .f32⟩
  | .hbm, ⟨14, _⟩ => ⟨S10240x1, .f32⟩
  | .hbm, ⟨15, _⟩ => ⟨S10240x1, .f32⟩
  | .hbm, ⟨16, _⟩ => ⟨S10240x1, .f32⟩
  | .hbm, ⟨17, _⟩ => ⟨S10240x1024, .f32⟩
  | .hbm, ⟨18, _⟩ => ⟨S10240x1024, .f32⟩
  | .hbm, ⟨19, _⟩ => ⟨S1x1024, .f32⟩
  | .hbm, ⟨20, _⟩ => ⟨S10240x1024, .f32⟩
  | .hbm, ⟨21, _⟩ => ⟨S10240x1024, .f32⟩
  | .hbm, ⟨22, _⟩ => ⟨S1x1x1024, .f32⟩
  | .hbm, ⟨23, _⟩ => ⟨S1024, .f32⟩
  | .hbm, ⟨24, _⟩ => ⟨S8192x1024, .f32⟩
  | .hbm, ⟨25, _⟩ => ⟨S2x1x1024, .f32⟩
  | .hbm, ⟨26, _⟩ => ⟨S2x1024, .f32⟩
  | .hbm, ⟨27, _⟩ => ⟨S2x1x1024, .f32⟩
  | .hbm, ⟨28, _⟩ => ⟨S2x1024x1024, .f32⟩
  | .hbm, ⟨29, _⟩ => ⟨S2048x1024, .f32⟩
  | .hbm, ⟨30, _⟩ => ⟨S10240x1024, .f32⟩
  | .hbm, ⟨31, _⟩ => ⟨S_, .f32⟩
  | .hbm, ⟨32, _⟩ => ⟨S10240x1024, .f32⟩
  | .hbm, ⟨33, _⟩ => ⟨S10240x1024, .f32⟩
  | .hbm, ⟨34, _⟩ => ⟨S10240x1024, .f32⟩
  | .hbm, ⟨35, _⟩ => ⟨S1x1x1024, .f32⟩
  | .hbm, ⟨36, _⟩ => ⟨S1024, .f32⟩
  | .hbm, ⟨37, _⟩ => ⟨S8192x1024, .f32⟩
  | .hbm, ⟨38, _⟩ => ⟨S2x1x1024, .f32⟩
  | .hbm, ⟨39, _⟩ => ⟨S2x1024, .f32⟩
  | .hbm, ⟨40, _⟩ => ⟨S2x1x1024, .f32⟩
  | .hbm, ⟨41, _⟩ => ⟨S2x1024x1024, .f32⟩
  | .hbm, ⟨42, _⟩ => ⟨S2048x1024, .f32⟩
  | .hbm, ⟨43, _⟩ => ⟨S10240x1024, .f32⟩
  | .hbm, ⟨44, _⟩ => ⟨S10240x1024, .f32⟩
  | .hbm, ⟨45, _⟩ => ⟨S10240x4096, .f32⟩
  | .hbm, ⟨46, _⟩ => ⟨S10240x512, .f32⟩
  | .hbm, ⟨47, _⟩ => ⟨S10240x1024, .f32⟩
  | .hbm, ⟨48, _⟩ => ⟨S10240x256, .f32⟩
  | .hbm, ⟨49, _⟩ => ⟨S10240x256, .f32⟩
  | .hbm, ⟨50, _⟩ => ⟨S10240x1024, .f32⟩
  | .hbm, ⟨51, _⟩ => ⟨S10240x1024, .f32⟩
  | .hbm, ⟨52, _⟩ => ⟨S10240x4x64, .f32⟩
  | .hbm, ⟨53, _⟩ => ⟨S10240x4x64, .f32⟩
  | .hbm, ⟨54, _⟩ => ⟨S_, .f32⟩
  | .hbm, ⟨55, _⟩ => ⟨S10240x4, .f32⟩
  | .hbm, ⟨56, _⟩ => ⟨S10240x4x1, .f32⟩
  | .hbm, ⟨57, _⟩ => ⟨S_, .f32⟩
  | .hbm, ⟨58, _⟩ => ⟨S10240x4x1, .f32⟩
  | .hbm, ⟨59, _⟩ => ⟨S10240x4x1, .f32⟩
  | .hbm, ⟨60, _⟩ => ⟨S_, .f32⟩
  | .hbm, ⟨61, _⟩ => ⟨S10240x4x1, .f32⟩
  | .hbm, ⟨62, _⟩ => ⟨S10240x4x1, .f32⟩
  | .hbm, ⟨63, _⟩ => ⟨S10240x4x1, .f32⟩
  | .hbm, ⟨64, _⟩ => ⟨S10240x4x64, .f32⟩
  | .hbm, ⟨65, _⟩ => ⟨S10240x4x64, .f32⟩
  | .hbm, ⟨66, _⟩ => ⟨S1x1x64, .f32⟩
  | .hbm, ⟨67, _⟩ => ⟨S10240x4x64, .f32⟩
  | .hbm, ⟨68, _⟩ => ⟨S10240x4x64, .f32⟩
  | .hbm, ⟨69, _⟩ => ⟨S10240x256, .f32⟩
  | .hbm, ⟨70, _⟩ => ⟨S10240x1024, .f32⟩
  | .hbm, ⟨71, _⟩ => ⟨S10240x1024, .f32⟩
  | .hbm, ⟨72, _⟩ => ⟨S_, .f32⟩
  | .hbm, ⟨73, _⟩ => ⟨S10240x1024, .f32⟩
  | .hbm, ⟨74, _⟩ => ⟨S10240x1024, .f32⟩
  | .hbm, ⟨75, _⟩ => ⟨S_, .f32⟩
  | .hbm, ⟨76, _⟩ => ⟨S10240x1024, .f32⟩
  | .hbm, ⟨77, _⟩ => ⟨S10240x1024, .f32⟩
  | .hbm, ⟨78, _⟩ => ⟨S10240x1024, .f32⟩
  | .hbm, ⟨79, _⟩ => ⟨S10240x1024, .f32⟩
  | .hbm, ⟨80, _⟩ => ⟨S_, .f32⟩
  | .hbm, ⟨81, _⟩ => ⟨S10240x1024, .f32⟩
  | .hbm, ⟨82, _⟩ => ⟨S10240x1024, .f32⟩
  | .hbm, ⟨83, _⟩ => ⟨S_, .f32⟩
  | .hbm, ⟨84, _⟩ => ⟨S10240x1024, .f32⟩
  | .hbm, ⟨85, _⟩ => ⟨S10240x1024, .f32⟩
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_3 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel4.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x1024 : Shape := ⟨2, ![2, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S2x6144x8, .f32⟩
  | .hbm, ⟨18, _⟩ => ⟨S2x8x6144, .f32⟩
  | .hbm, ⟨19, _⟩ => ⟨S2x1x6144, .f32⟩
  | .hbm, ⟨20, _⟩ => ⟨S2x8x6144, .f32⟩
  | .hbm, ⟨21, _⟩ => ⟨S2x8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.Experts.Bits.Runs.lean ====
/- The body on each of its two paths: at the first point of a row tile the contribution is stored, at the others it is added to what the tile holds. -/
module

public import proofs.«01_k».proof.Proof.Gen.Kernel.Skeleton
public import proofs.«01_k».proof.Proof.Experts.Bits.Pins

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev VO0_5 : View sig .tc .vmem S1024x1024 .f32 := (Memref.whole cc0_stg5_0 : Memref sig .tc .vmem S1024x1024 .f32).view

set_option backward.proofsInPublic true in
set_option maxHeartbeats 8000000 in

noncomputable def kernelRun0_A (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Bits .i32)) (T1 : (S80.Idx → Elt Bits .i32)) (T2 : (S80.Idx → Elt Bits .i32))
     (x0 : (S1024x1024.Idx → Elt Bits .bf16)) (x1 : (S1024x128.Idx → Elt Bits .f32)) (x2 : (S1x1024x512.Idx → Elt Bits .bf16)) (x3 : (S1x1024x512.Idx → Elt Bits .bf16)) (x4 : (S1x512x1024.Idx → Elt Bits .bf16)) (k0_h1 : k0_cond1 i (View.readAt (Elt Bits) (tbM0_2).view (Rect.unit (s := S80) (k0_off1 i) S1.size (k0_off1_inb i)).toLoadRect T2 (Shape.Idx.first (numel1_S1.symm ▸ Nat.one_pos))) = 1#1) (k0_h2 : ¬(k0_cond2 i (View.readAt (Elt Bits) (tbM0_2).view (Rect.unit (s := S80) (k0_off1 i) S1.size (k0_off1_inb i)).toLoadRect T2 (Shape.Idx.first (numel1_S1.symm ▸ Nat.one_pos))) = 1#1)) :
    { out0 : List (View.Piece (Elt Bits) S1024x1024 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg10 fullShare d)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg10.view.loc (c : Thread nD τ) ↦[arg10.view.set]{fullShare} arg10.view.writes (Elt Bits) f out0)) -∗ K ⟨⟩))
          ⊢ wp frame (wpE (defs₀ (F := Bits)) Variants.none c none) Set.univ (cc0_ffn_experts i tbM0_0 (Memref.isWhole_whole _) tbM0_1 (Memref.isWhole_whole _) tbM0_2 (Memref.isWhole_whole _) arg5 harg5 arg6 harg6 arg7 harg7 arg8 harg8 arg9 harg9 arg10 harg10) K } :=
  ⟨_, fun K => by
    unfold owns
    rw [cc0_ffn_experts_eq_skeleton]; unfold cc0_ffn_experts_skel
    iintro ⟨H0, H1, H2, H3, H4, HT0, HT1, HT2, ⟨%d5, %f5, -, HO5⟩, Hk⟩
    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    iexists _; iexact HO5⟩

theorem cover0_A_5 (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Bits .i32)) (T1 : (S80.Idx → Elt Bits .i32)) (T2 : (S80.Idx → Elt Bits .i32))
     (x0 : (S1024x1024.Idx → Elt Bits .bf16)) (x1 : (S1024x128.Idx → Elt Bits .f32)) (x2 : (S1x1024x512.Idx → Elt Bits .bf16)) (x3 : (S1x1024x512.Idx → Elt Bits .bf16)) (x4 : (S1x512x1024.Idx → Elt Bits .bf16)) (k0_h1 : k0_cond1 i (View.readAt (Elt Bits) (tbM0_2).view (Rect.unit (s := S80) (k0_off1 i) S1.size (k0_off1_inb i)).toLoadRect T2 (Shape.Idx.first (numel1_S1.symm ▸ Nat.one_pos))) = 1#1) (k0_h2 : ¬(k0_cond2 i (View.readAt (Elt Bits) (tbM0_2).view (Rect.unit (s := S80) (k0_off1 i) S1.size (k0_off1_inb i)).toLoadRect T2 (Shape.Idx.first (numel1_S1.symm ▸ Nat.one_pos))) = 1#1)) (y : S1024x1024.Idx) :
    ∃ pc ∈ (kernelRun0_A c i arg5 harg5 arg6 harg6 arg7 harg7 arg8 harg8 arg9 harg9 arg10 harg10 T0 T1 T2 x0 x1 x2 x3 x4 k0_h1 k0_h2).1, y ∈ pc.1.set :=
  View.cover_of_tiledL (kernelRun0_A c i arg5 harg5 arg6 harg6 arg7 harg7 arg8 harg8 arg9 harg9 arg10 harg10 T0 T1 T2 x0 x1 x2 x3 x4 k0_h1 k0_h2).1 S1024x1024.size (by sl_kernel_rfl) y

def out0_A_5 (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Bits .i32)) (T1 : (S80.Idx → Elt Bits .i32)) (T2 : (S80.Idx → Elt Bits .i32))
     (x0 : (S1024x1024.Idx → Elt Bits .bf16)) (x1 : (S1024x128.Idx → Elt Bits .f32)) (x2 : (S1x1024x512.Idx → Elt Bits .bf16)) (x3 : (S1x1024x512.Idx → Elt Bits .bf16)) (x4 : (S1x512x1024.Idx → Elt Bits .bf16)) (k0_h1 : k0_cond1 i (View.readAt (Elt Bits) (tbM0_2).view (Rect.unit (s := S80) (k0_off1 i) S1.size (k0_off1_inb i)).toLoadRect T2 (Shape.Idx.first (numel1_S1.symm ▸ Nat.one_pos))) = 1#1) (k0_h2 : ¬(k0_cond2 i (View.readAt (Elt Bits) (tbM0_2).view (Rect.unit (s := S80) (k0_off1 i) S1.size (k0_off1_inb i)).toLoadRect T2 (Shape.Idx.first (numel1_S1.symm ▸ Nat.one_pos))) = 1#1)) : (S1024x1024.Idx → Elt Bits .f32) :=
  VO0_5.read (Elt Bits) (VO0_5.writes (Elt Bits) VO0_5.junk (kernelRun0_A c i arg5 harg5 arg6 harg6 arg7 harg7 arg8 harg8 arg9 harg9 arg10 harg10 T0 T1 T2 x0 x1 x2 x3 x4 k0_h1 k0_h2).1)

set_option backward.proofsInPublic true in
set_option maxHeartbeats 8000000 in

noncomputable def kernelRun0_B (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Bits .i32)) (T1 : (S80.Idx → Elt Bits .i32)) (T2 : (S80.Idx → Elt Bits .i32))
     (x0 : (S1024x1024.Idx → Elt Bits .bf16)) (x1 : (S1024x128.Idx → Elt Bits .f32)) (x2 : (S1x1024x512.Idx → Elt Bits .bf16)) (x3 : (S1x1024x512.Idx → Elt Bits .bf16)) (x4 : (S1x512x1024.Idx → Elt Bits .bf16)) (xo5 : (S1024x1024.Idx → Elt Bits .f32)) (k0_h1 : ¬(k0_cond1 i (View.readAt (Elt Bits) (tbM0_2).view (Rect.unit (s := S80) (k0_off1 i) S1.size (k0_off1_inb i)).toLoadRect T2 (Shape.Idx.first (numel1_S1.symm ▸ Nat.one_pos))) = 1#1)) (k0_h2 : k0_cond2 i (View.readAt (Elt Bits) (tbM0_2).view (Rect.unit (s := S80) (k0_off1 i) S1.size (k0_off1_inb i)).toLoadRect T2 (Shape.Idx.first (numel1_S1.symm ▸ Nat.one_pos))) = 1#1) :
    { out0 : List (View.Piece (Elt Bits) S1024x1024 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg10 fullShare xo5
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg10.view.loc (c : Thread nD τ) ↦[arg10.view.set]{fullShare} arg10.view.writes (Elt Bits) f out0)) -∗ K ⟨⟩))
          ⊢ wp frame (wpE (defs₀ (F := Bits)) Variants.none c none) Set.univ (cc0_ffn_experts i tbM0_0 (Memref.isWhole_whole _) tbM0_1 (Memref.isWhole_whole _) tbM0_2 (Memref.isWhole_whole _) arg5 harg5 arg6 harg6 arg7 harg7 arg8 harg8 arg9 harg9 arg10 harg10) K } :=
  ⟨_, fun K => by
    unfold owns
    rw [cc0_ffn_experts_eq_skeleton]; unfold cc0_ffn_experts_skel
    iintro ⟨H0, H1, H2, H3, H4, HT0, HT1, HT2, ⟨%f5, %hf5, HO5⟩, Hk⟩
    obtain rfl := harg10.eq_unread hf5
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    iexists _; iexact HO5⟩

theorem cover0_B_5 (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Bits .i32)) (T1 : (S80.Idx → Elt Bits .i32)) (T2 : (S80.Idx → Elt Bits .i32))
     (x0 : (S1024x1024.Idx → Elt Bits .bf16)) (x1 : (S1024x128.Idx → Elt Bits .f32)) (x2 : (S1x1024x512.Idx → Elt Bits .bf16)) (x3 : (S1x1024x512.Idx → Elt Bits .bf16)) (x4 : (S1x512x1024.Idx → Elt Bits .bf16)) (xo5 : (S1024x1024.Idx → Elt Bits .f32)) (k0_h1 : ¬(k0_cond1 i (View.readAt (Elt Bits) (tbM0_2).view (Rect.unit (s := S80) (k0_off1 i) S1.size (k0_off1_inb i)).toLoadRect T2 (Shape.Idx.first (numel1_S1.symm ▸ Nat.one_pos))) = 1#1)) (k0_h2 : k0_cond2 i (View.readAt (Elt Bits) (tbM0_2).view (Rect.unit (s := S80) (k0_off1 i) S1.size (k0_off1_inb i)).toLoadRect T2 (Shape.Idx.first (numel1_S1.symm ▸ Nat.one_pos))) = 1#1) (y : S1024x1024.Idx) :
    ∃ pc ∈ (kernelRun0_B c i arg5 harg5 arg6 harg6 arg7 harg7 arg8 harg8 arg9 harg9 arg10 harg10 T0 T1 T2 x0 x1 x2 x3 x4 xo5 k0_h1 k0_h2).1, y ∈ pc.1.set :=
  View.cover_of_tiledL (kernelRun0_B c i arg5 harg5 arg6 harg6 arg7 harg7 arg8 harg8 arg9 harg9 arg10 harg10 T0 T1 T2 x0 x1 x2 x3 x4 xo5 k0_h1 k0_h2).1 S1024x1024.size (by sl_kernel_rfl) y

def out0_B_5 (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Bits .i32)) (T1 : (S80.Idx → Elt Bits .i32)) (T2 : (S80.Idx → Elt Bits .i32))
     (x0 : (S1024x1024.Idx → Elt Bits .bf16)) (x1 : (S1024x128.Idx → Elt Bits .f32)) (x2 : (S1x1024x512.Idx → Elt Bits .bf16)) (x3 : (S1x1024x512.Idx → Elt Bits .bf16)) (x4 : (S1x512x1024.Idx → Elt Bits .bf16)) (xo5 : (S1024x1024.Idx → Elt Bits .f32)) (k0_h1 : ¬(k0_cond1 i (View.readAt (Elt Bits) (tbM0_2).view (Rect.unit (s := S80) (k0_off1 i) S1.size (k0_off1_inb i)).toLoadRect T2 (Shape.Idx.first (numel1_S1.symm ▸ Nat.one_pos))) = 1#1)) (k0_h2 : k0_cond2 i (View.readAt (Elt Bits) (tbM0_2).view (Rect.unit (s := S80) (k0_off1 i) S1.size (k0_off1_inb i)).toLoadRect T2 (Shape.Idx.first (numel1_S1.symm ▸ Nat.one_pos))) = 1#1) : (S1024x1024.Idx → Elt Bits .f32) :=
  VO0_5.read (Elt Bits) (VO0_5.writes (Elt Bits) VO0_5.junk (kernelRun0_B c i arg5 harg5 arg6 harg6 arg7 harg7 arg8 harg8 arg9 harg9 arg10 harg10 T0 T1 T2 x0 x1 x2 x3 x4 xo5 k0_h1 k0_h2).1)

end Cert.Kernel.Experts

end
-- ==== Proof.Experts.Bits.Ok0.lean ====
/- Every block the tables choose lies inside its array. -/
module

public import proofs.«01_k».proof.Proof.Experts.Bits.Pins

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem ok_pfN_0_0_inb : ∀ i : grid0.Coords, ∀ a, (cc0_transform_0 k0_off1_inb numel1_S1 (pfN (⟨0, by omega⟩ : Fin 1)) i a + 1) * S1024x1024.size a ≤ S10240x1024.size a := by decide +kernel
theorem ok_pfN_0_0 : (∀ i : grid0.Coords, ∃ h : (∀ a, (cc0_transform_0 k0_off1_inb numel1_S1 (pfN (⟨0, by omega⟩ : Fin 1)) i a + 1) * S1024x1024.size a ≤ S10240x1024.size a), EltTy.bits .bf16 = 32 ∨ (Rect.block (s := S10240x1024) S1024x1024.size (cc0_transform_0 k0_off1_inb numel1_S1 (pfN (⟨0, by omega⟩ : Fin 1)) i) h).WholeWords (EltTy.packing .bf16)) := fun i => ⟨ok_pfN_0_0_inb i, .inr (Affine.block_words_dvd (s := S10240x1024) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S1024x128.size a ≤ S10240x128.size a := by decide +kernel
theorem ok_pfN_0_1 : (∀ i : grid0.Coords, ∃ h : (∀ a, (cc0_transform_1 k0_off1_inb numel1_S1 (pfN (⟨0, by omega⟩ : Fin 1)) i a + 1) * S1024x128.size a ≤ S10240x128.size a), EltTy.bits .f32 = 32 ∨ (Rect.block (s := S10240x128) S1024x128.size (cc0_transform_1 k0_off1_inb numel1_S1 (pfN (⟨0, by omega⟩ : Fin 1)) i) h).WholeWords (EltTy.packing .f32)) := fun i => ⟨ok_pfN_0_1_inb i, .inl rfl⟩
theorem ok_pfN_0_2_inb : ∀ i : grid0.Coords, ∀ a, (cc0_transform_2 k0_off1_inb numel1_S1 (pfN (⟨0, by omega⟩ : Fin 1)) i a + 1) * S1x1024x512.size a ≤ S8x1024x3584.size a := by decide +kernel
theorem ok_pfN_0_2 : (∀ i : grid0.Coords, ∃ h : (∀ a, (cc0_transform_2 k0_off1_inb numel1_S1 (pfN (⟨0, by omega⟩ : Fin 1)) i a + 1) * S1x1024x512.size a ≤ S8x1024x3584.size a), EltTy.bits .bf16 = 32 ∨ (Rect.block (s := S8x1024x3584) S1x1024x512.size (cc0_transform_2 k0_off1_inb numel1_S1 (pfN (⟨0, by omega⟩ : Fin 1)) i) h).WholeWords (EltTy.packing .bf16)) := fun i => ⟨ok_pfN_0_2_inb i, .inr (Affine.block_words_dvd (s := S8x1024x3584) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S1x1024x512.size a ≤ S8x1024x3584.size a := by decide +kernel
theorem ok_pfN_0_3 : (∀ i : grid0.Coords, ∃ h : (∀ a, (cc0_transform_3 k0_off1_inb numel1_S1 (pfN (⟨0, by omega⟩ : Fin 1)) i a + 1) * S1x1024x512.size a ≤ S8x1024x3584.size a), EltTy.bits .bf16 = 32 ∨ (Rect.block (s := S8x1024x3584) S1x1024x512.size (cc0_transform_3 k0_off1_inb numel1_S1 (pfN (⟨0, by omega⟩ : Fin 1)) i) h).WholeWords (EltTy.packing .bf16)) := fun i => ⟨ok_pfN_0_3_inb i, .inr (Affine.block_words_dvd (s := S8x1024x3584) (p := EltTy.packing .bf16) (by decide) (by decide))⟩
theorem ok_pfN_0_4_inb : ∀ i : grid0.Coords, ∀ a, (cc0_transform_4 k0_off1_inb numel1_S1 (pfN (⟨0, by omega⟩ : Fin 1)) i a + 1) * S1x512x1024.size a ≤ S8x3584x1024.size a := by decide +kernel
theorem ok_pfN_0_4 : (∀ i : grid0.Coords, ∃ h : (∀ a, (cc0_transform_4 k0_off1_inb numel1_S1 (pfN (⟨0, by omega⟩ : Fin 1)) i a + 1) * S1x512x1024.size a ≤ S8x3584x1024.size a), EltTy.bits .bf16 = 32 ∨ (Rect.block (s := S8x3584x1024) S1x512x1024.size (cc0_transform_4 k0_off1_inb numel1_S1 (pfN (⟨0, by omega⟩ : Fin 1)) i) h).WholeWords (EltTy.packing .bf16)) := fun i => ⟨ok_pfN_0_4_inb i, .inr (Affine.block_words_dvd (s := S8x3584x1024) (p := EltTy.packing .bf16) (by decide) (by decide))⟩
theorem ok_pfN_0_5_inb : ∀ i : grid0.Coords, ∀ a, (cc0_transform_5 k0_off1_inb numel1_S1 (pfN (⟨0, by omega⟩ : Fin 1)) i a + 1) * S1024x1024.size a ≤ S10240x1024.size a := by decide +kernel
theorem ok_pfN_0_5 : (∀ i : grid0.Coords, ∃ h : (∀ a, (cc0_transform_5 k0_off1_inb numel1_S1 (pfN (⟨0, by omega⟩ : Fin 1)) i a + 1) * S1024x1024.size a ≤ S10240x1024.size a), EltTy.bits .f32 = 32 ∨ (Rect.block (s := S10240x1024) S1024x1024.size (cc0_transform_5 k0_off1_inb numel1_S1 (pfN (⟨0, by omega⟩ : Fin 1)) i) h).WholeWords (EltTy.packing .f32)) := fun i => ⟨ok_pfN_0_5_inb i, .inl rfl⟩
theorem ok_pfN_0 : ok0 (F := Bits) (pfN (⟨0, by omega⟩ : Fin 1)) := ⟨ok_pfN_0_0, ok_pfN_0_1, ok_pfN_0_2, ok_pfN_0_3, ok_pfN_0_4, ok_pfN_0_5⟩

end Cert.Kernel.Experts

end
-- ==== Proof.Experts.Bits.Cfg.lean ====
/- The pipeline at those tables, its points, blocks and which path a point takes. -/
module

public import proofs.«01_k».proof.Proof.Experts.Bits.Ok0

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (ch : Fin 1)

theorem ok_pfN : ∀ ch : Fin 1, ok0 (F := Bits) (pfN ch) := fun ch => match ch with
  | ⟨0, _⟩ => ok_pfN_0
  | ⟨_ + 1, h⟩ => absurd h (by omega)

def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

abbrev crd (t : Fin (cfgA ch).N) : (cfgA ch).grid.Coords := (cfgA ch).grid.coords t

abbrev ms0_0 (t : Fin (cfgA ch).N) : Memref sig .tc .vmem S1024x1024 .bf16 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1024x128 .f32 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x1024x512 .bf16 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S1x1024x512 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S1x512x1024 .bf16 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S1024x1024 .f32 := spec0_5.stage ((cfgA ch).slots t (5 : Fin 6))
abbrev hs0_5 (t : Fin (cfgA ch).N) : (ms0_5 ch t).IsWhole := hstage0_5 (((cfgA ch).slots t (5 : Fin 6)).cast nbuf0_5)

def iblk (ρ : Dev nD → PrngReg) (c : Dev nD) (w : Fin (cfgA ch).W) (t : Fin (cfgA ch).N) : (((cfgA ch).win w).xblock (crd ch t)).Idx → Elt Bits ((cfgA ch).win w).elt :=
  (((cfgA ch).win w).blk t).view.read (Elt Bits) (V m c (Pipeline.arrRef (cfgA ch).spec w))

abbrev P0_0 (t : Fin (cfgA ch).N) : Prop := k0_cond1 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1

set_option backward.proofsInPublic true in

def frMask0_5 : Fin 1 → ℕ
  | ⟨0, _⟩ => 0x80000000000000800000000000008000000000000080000000000000800000000000008000000000000080000000000000800000000000008000000000000080000000000000
  | ⟨_ + 1, h⟩ => absurd h (by omega)

def frTab0_5 : ℕ → Bool
  | 0 => true
  | n + 1 => (frMask0_5 ch).testBit n

end Cert.Kernel.Experts

end
-- ==== Proof.Experts.Bits.Facts.lean ====
/- The facts about a point that are decided over the grid. -/
module

public import proofs.«01_k».proof.Proof.Experts.Bits.Cfg

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ
variable (ch : Fin 1)
variable (m : (ℓ : Loc nD τ sig) → Buf (Elt Bits) ℓ) (ρ : Dev nD → PrngReg)

abbrev FactsAt (ch : Fin 1) (t : Fin (cfgA ch).N) : Prop :=
  -- frTab0_5_step, hyps0_A, sched0_A, hyps0_B, sched0_B
  (frTab0_5 ch (t.val + 1) = (((cfgA ch).win (5 : Fin 6)).flush t || ((cfgA ch).idle (5 : Fin 6) ((cfgA ch).grid.coords t) && frTab0_5 ch t.val)))
  ∧ (P0_0 ch t → (k0_cond1 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1) ∧ ((¬(k0_cond2 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1)) ∧ (True)))
  ∧ (P0_0 ch t → (cfgA ch).idle (5 : Fin 6) ((cfgA ch).grid.coords t) = false ∧ ((cfgA ch).win (5 : Fin 6)).flush t = false ∧ frTab0_5 ch t.val = true)
  ∧ (¬P0_0 ch t → (¬(k0_cond1 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1)) ∧ ((k0_cond2 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1) ∧ (True)))
  ∧ (¬P0_0 ch t → (cfgA ch).idle (5 : Fin 6) ((cfgA ch).grid.coords t) = false ∧ frTab0_5 ch t.val = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (inferInstance))))

end Cert.Kernel.Experts

end
-- ==== Proof.Experts.Bits.Frame.lean ====
/- What the output tile holds after each point, the body at a point, and the run of the whole call after its host operations. -/
module

public import proofs.«01_k».proof.Proof.Experts.Bits.Runs
public import proofs.«01_k».proof.Proof.Experts.Bits.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

variable (ch : Fin 1)
variable (m : (ℓ : Loc nD τ sig) → Buf (Elt Bits) ℓ) (ρ : Dev nD → PrngReg)

theorem allFacts : ∀ (ch : Fin 1) (t : Fin (cfgA ch).N), FactsAt ch t := fun ch => match ch with
  | ⟨0, _⟩ => allFacts_0
  | ⟨_ + 1, h⟩ => absurd h (by omega)

theorem frTab0_5_step : ∀ (ch : Fin 1) (t : Fin (cfgA ch).N),
    frTab0_5 ch (t.val + 1) = (((cfgA ch).win (5 : Fin 6)).flush t || ((cfgA ch).idle (5 : Fin 6) ((cfgA ch).grid.coords t) && frTab0_5 ch t.val)) := fun ch t => (allFacts ch t).1
theorem freshF0_5 (t : Fin (cfgA ch).N) : (cfgA ch).fresh (5 : Fin 6) t.val = frTab0_5 ch t.val :=
  Pipeline.Cfg.fresh_tab (cfgA ch) (5 : Fin 6) (frTab0_5 ch) rfl (frTab0_5_step ch) t.val (Nat.le_of_lt t.isLt)

theorem hyps0_A : ∀ (ch : Fin 1) (t : Fin (cfgA ch).N), P0_0 ch t →
    (k0_cond1 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1) ∧ ((¬(k0_cond2 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1)) ∧ (True)) := fun ch t => (allFacts ch t).2.1

theorem hypsR0_A : ∀ (ch : Fin 1) (t : Fin (cfgA ch).N), P0_0 ch t →
    (k0_cond1 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1) ∧ ((¬(k0_cond2 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1)) ∧ (True)) := hyps0_A

theorem sched0_A : ∀ (ch : Fin 1) (t : Fin (cfgA ch).N), P0_0 ch t →
    (cfgA ch).idle (5 : Fin 6) ((cfgA ch).grid.coords t) = false ∧ ((cfgA ch).win (5 : Fin 6)).flush t = false ∧ (cfgA ch).fresh (5 : Fin 6) t.val = true := by
  intro ch t; rw [freshF0_5 ch t]; exact (fun ch t => (allFacts ch t).2.2.1) ch t

theorem hyps0_B : ∀ (ch : Fin 1) (t : Fin (cfgA ch).N), ¬P0_0 ch t →
    (¬(k0_cond1 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1)) ∧ ((k0_cond2 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1) ∧ (True)) := fun ch t => (allFacts ch t).2.2.2.1

theorem hypsR0_B : ∀ (ch : Fin 1) (t : Fin (cfgA ch).N), ¬P0_0 ch t →
    (¬(k0_cond1 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1)) ∧ ((k0_cond2 (crd ch t) (View.readAt (Elt Bits) (tbM0_2).view (Rect.unit (s := S80) (k0_off1 (crd ch t)) S1.size (k0_off1_inb (crd ch t))).toLoadRect (pinT_2 ch) (Shape.Idx.first (numel1_S1.symm ▸ Nat.one_pos))) = 1#1) ∧ (True)) := hyps0_B

theorem sched0_B : ∀ (ch : Fin 1) (t : Fin (cfgA ch).N), ¬P0_0 ch t →
    (cfgA ch).idle (5 : Fin 6) ((cfgA ch).grid.coords t) = false ∧ (cfgA ch).fresh (5 : Fin 6) t.val = false := by
  intro ch t; rw [freshF0_5 ch t]; exact (fun ch t => (allFacts ch t).2.2.2.2) ch t

def step0 (c : Dev nD) (t : Fin (cfgA ch).N) (prev : (S1024x1024.Idx → Elt Bits .f32)) : (S1024x1024.Idx → Elt Bits .f32) :=
  if q0 : P0_0 ch t then
    out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0).1 (hypsR0_A ch t q0).2.1
  else
    out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) prev (hypsR0_B ch t q0).1 (hypsR0_B ch t q0).2.1

def traj0 (c : Dev nD) : (n : ℕ) → n < (cfgA ch).N → (S1024x1024.Idx → Elt Bits .f32)
  | 0, h => step0 ch m ρ c ⟨0, h⟩ default
  | n + 1, h => step0 ch m ρ c ⟨n + 1, h⟩ (traj0 c n (Nat.lt_of_succ_lt h))

def prev0 (c : Dev nD) (t : Fin (cfgA ch).N) : (S1024x1024.Idx → Elt Bits .f32) :=
  if h : t.val = 0 then default else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S1024x1024.Idx → Elt Bits .f32)) (q0 : P0_0 ch t) :
    step0 ch m ρ c t prev = out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0).1 (hypsR0_A ch t q0).2.1 := by
  unfold step0; simp only [dif_pos q0]

theorem step0_B (c : Dev nD) (t : Fin (cfgA ch).N) (prev : (S1024x1024.Idx → Elt Bits .f32)) (q0 : ¬P0_0 ch t) :
    step0 ch m ρ c t prev = out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) prev (hypsR0_B ch t q0).1 (hypsR0_B ch t q0).2.1 := by
  unfold step0; simp only [dif_neg q0]

def prev0T (c : Dev nD) (t : Fin ((cfgA ch).N + 1)) : (S1024x1024.Idx → Elt Bits .f32) :=
  if h : t.val = 0 then default else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

def Phi (m : (ℓ : Loc nD τ sig) → Buf (Elt Bits) ℓ) (ρ : Dev nD → PrngReg) (c : Dev nD) (t : Fin ((cfgA ch).N + 1)) : sProp 𝕄 :=
  iprop((tbM0_0.view.loc (c : Thread nD τ) ↦{fullShare.right} pinT_0 ch) ∗ (tbM0_1.view.loc (c : Thread nD τ) ↦{fullShare.right} pinT_1 ch) ∗ (tbM0_2.view.loc (c : Thread nD τ) ↦{fullShare.right} pinT_2 ch) ∗ Pipeline.ΦA (U := UR sig nD τ) spec0 c)

def dats (_ : Fin 1) (c : Dev nD) : Dat τ (Elt Bits) Unit ℕ (UR sig nD τ) ℕ (cfgA ch) c where
  A w := V m c (Pipeline.arrRef (cfgA ch).spec w)
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => (traj0 ch m ρ c t.val t.isLt)
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = iblk ch m ρ c (4 : Fin 6) t := rfl
theorem after0_5 (c : Dev nD) (t : Fin (cfgA ch).N) : (dats ch m ρ 0 c).after (5 : Fin 6) t = (traj0 ch m ρ c t.val t.isLt) := rfl

theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · obtain ⟨i5, -, -⟩ := sched0_A ch t q0
    rw [i5] at hi; exact absurd hi (by decide)
  · obtain ⟨i5, -⟩ := sched0_B ch t q0
    rw [i5] at hi; exact absurd hi (by decide)

theorem before0_5 (c : Dev nD) (t : Fin (cfgA ch).N) (d) :
    (dats ch m ρ 0 c).before (5 : Fin 6) t d = if (cfgA ch).fresh (5 : Fin 6) t.val then d else (prev0 ch m ρ c t) := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin (cfgA ch).N) : Prog (TpuEff nD τ sig (Elt Bits) Λ₀ .tc) PUnit :=
  cc0_ffn_experts (crd ch t) (Memref.whole main_v2) (Memref.isWhole_whole _) (Memref.whole main_v6) (Memref.isWhole_whole _) (Memref.whole main_v9) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t)

set_option maxHeartbeats 4000000 in

theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i5, f5, fr5⟩ := sched0_A ch t q0
    have F0 := hypsR0_A ch t q0
    have k0_h1 := F0.1; have F1 := F0.2
    have k0_h2 := F1.1; have F2 := F1.2
    clear F0 F1 F2
    rewrite [i5]
    simp only [before0_0, before0_1, before0_2, before0_3, before0_4, before0_5, after0_0, after0_1, after0_2, after0_3, after0_4, after0_5, f5]
    simp only [fr5, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨HT0, HT1, HT2, HA⟩, Ho, ⟨%d0, H0⟩, ⟨%d1, H1⟩, ⟨%d2, H2⟩, ⟨%d3, H3⟩, ⟨%d4, H4⟩, ⟨%d5, H5⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexists _; iexact H5
    iintro ⟨H0, H1, H2, H3, H4, HT0, HT1, HT2, ⟨%e5, H5⟩⟩
    isplitl [HT0 HT1 HT2 HA]
    · isplitl [HT0]
      · iexact HT0
      isplitl [HT1]
      · iexact HT1
      isplitl [HT2]
      · iexact HT2
      iexact HA
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_A_5 c _ _ _ _ _ _ _ _ _ _ _ _ _ _ _ _ _ _ _ _ _ _ _)
  · obtain ⟨i5, fr5⟩ := sched0_B ch t q0
    have F0 := hypsR0_B ch t q0
    have k0_h1 := F0.1; have F1 := F0.2
    have k0_h2 := F1.1; have F2 := F1.2
    clear F0 F1 F2
    rewrite [i5]
    simp only [before0_0, before0_1, before0_2, before0_3, before0_4, before0_5, after0_0, after0_1, after0_2, after0_3, after0_4, after0_5]
    simp only [fr5, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_B ch m ρ c t _ q0]
    unfold Phi; simp only [prev0T_castSucc, prev0T_succ, traj0_eq, step0_B ch m ρ c t _ q0, Fin.val_castSucc, Fin.val_succ]
    iintro ⟨⟨HT0, HT1, HT2, HA⟩, Ho, ⟨%d0, H0⟩, ⟨%d1, H1⟩, ⟨%d2, H2⟩, ⟨%d3, H3⟩, ⟨%d4, H4⟩, ⟨%d5, H5⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) _ k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexact H5
    iintro ⟨H0, H1, H2, H3, H4, HT0, HT1, HT2, ⟨%e5, H5⟩⟩
    isplitl [HT0 HT1 HT2 HA]
    · isplitl [HT0]
      · iexact HT0
      isplitl [HT1]
      · iexact HT1
      isplitl [HT2]
      · iexact HT2
      iexact HA
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_B_5 c _ _ _ _ _ _ _ _ _ _ _ _ _ _ _ _ _ _ _ _ _ _ _ _)

theorem body_obligation (c : Dev nD) : BodyObligation (dats ch m ρ 0 c) (defs₀ (F := Bits)) Variants.none () Set.univ := fun t => by
  rw [bigSep_W0]
  exact sound_body ch m ρ c t

theorem share_eq (c : Dev nD) (w : Fin (cfgA ch).W) : (dats ch m ρ 0 c).share w = fullShare := by unfold Dat.share; split <;> rfl

theorem prefHeld_eq (c : Dev nD) (q : Fin 3 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_v2) ↦{q 0} v 0) ∗ (((c : Thread nD τ).loc main_v6) ↦{q 1} v 1) ∗ (((c : Thread nD τ).loc main_v9) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The pipeline's invariant before the first point, from what the region hands over. -/
theorem phi0_intro (c : Dev nD) :
    iprop(Pipeline.ΦA (U := UR sig nD τ) spec0 c ∗ Pipeline.ΦT pre0 (adm ch).1 c) ⊢ (dats ch m ρ 0 c).Φ 0 := by
  rw [show Pipeline.ΦT pre0 (adm ch).1 c = Pipeline.prefHeld (Ix := Unit) (Name := ℕ) (U := UR sig nD τ) (Lvl := ℕ) pre0 c (fun _ => fullShare.right) (adm ch).1 from rfl,
    prefHeld_eq, show (dats ch m ρ 0 c).Φ 0 = Phi ch m ρ c 0 from rfl]
  unfold Phi
  iintro ⟨HA, ⟨HT0, HT1, HT2⟩⟩
  isplitl [HT0]
  · iexact HT0
  isplitl [HT1]
  · iexact HT1
  isplitl [HT2]
  · iexact HT2
  iexact HA

/-- And what it gives back after the last. -/
theorem phiN_exit (c : Dev nD) : (dats ch m ρ 0 c).Φ (Fin.last (cfgA ch).N) ⊢ Pipeline.ΦA (U := UR sig nD τ) spec0 c := by
  rw [show (dats ch m ρ 0 c).Φ (Fin.last (cfgA ch).N) = Phi ch m ρ c (Fin.last _) from rfl]
  unfold Phi
  iintro ⟨-, -, -, HA⟩
  iexact HA

/-- The tables at the call are the steps' row tiles, experts and first marks. -/
theorem V_pre (c : Dev nD) (j : Fin 3) : V m c (pre0.ref j) = (adm ch).1 j := by
  fin_cases j
  · exact V_v2 ch m c
  · exact V_v6 ch m c
  · exact V_v9 ch m c

/-- The call's run: every array ends as the pipeline's data say, every other buffer as the host operations left it, and
    every semaphore at zero. -/
theorem run_main : θ_run (defs (F := Bits)) (onTc (τ := τ) (main (F := Bits))) (s₀ m ρ)
    (fun r => Pipeline.FramePost (pcs ch) (dats ch m ρ) 0 (V m) r ∧ r.2.sem = fun _ => 0) :=
  Pipeline.θ_run_frameP_track pcfgs (fun _ => adm ch) (dats ch m ρ) 0 (launch0 (F := Bits)) defs₀ Variants.none m ρ main
    (fun c => (body_obligation ch m ρ c).loose) (share_eq ch m ρ) (fun _ _ => rfl) (V m)
    (Pipeline.hmainP_prefix pcfgs 0 defs₀ Variants.none m main hostOps0 hostOps0_sub
      ⟨rfl, rfl, rfl, rfl, rfl, rfl, rfl, rfl, rfl, rfl, rfl, rfl, rfl, rfl, rfl⟩ main_chain)
    (fun _ _ => rfl) (V_pre ch m) (phi0_intro ch m ρ) (phiN_exit ch m ρ) _ (fun _ h => h)

theorem V_args (c : Dev nD) : V m c main_arg0 = m ((c.tc : Thread nD τ).loc main_arg0)
    ∧ V m c main_arg1 = m ((c.tc : Thread nD τ).loc main_arg1)
    ∧ V m c main_arg2 = m ((c.tc : Thread nD τ).loc main_arg2)
    ∧ V m c main_arg3 = m ((c.tc : Thread nD τ).loc main_arg3)
    ∧ V m c main_arg4 = m ((c.tc : Thread nD τ).loc main_arg4) := by
  refine ⟨?_, ?_, ?_, ?_, ?_⟩ <;> · unfold V; after_results

/-- From a state the run ends in, the argument arrays are unchanged. -/
theorem args_of_post {r : PUnit × MemSt nD τ sig (Elt Bits)} (h : Pipeline.FramePost (pcs ch) (dats ch m ρ) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (show main_arg0 ∈ Pipeline.restRefs sig spec0 by decide)).trans (V_args m c).1,
    (((h c).1 (1 : Fin 6)).trans ((dats ch m ρ 0 c).arrAt_in (1 : Fin 6) rfl _)).trans (V_args m c).2.1,
    ((h c).2 main_arg2 (show main_arg2 ∈ Pipeline.restRefs sig spec0 by decide)).trans (V_args m c).2.2.1,
    ((h c).2 main_arg3 (show main_arg3 ∈ Pipeline.restRefs sig spec0 by decide)).trans (V_args m c).2.2.2.1,
    ((h c).2 main_arg4 (show main_arg4 ∈ Pipeline.restRefs sig spec0 by decide)).trans (V_args m c).2.2.2.2⟩

/-- The frame: the call ends, its argument arrays unchanged and every semaphore at zero. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of_post 0 m ρ h.1, h.2⟩) (run_main 0 m ρ)

end Cert.Kernel.Experts

end
-- ==== Proof.Experts.Spec.lean ====
/- What the experts give, index by index, as a function of the arguments, and that sum taken as the kernel takes it: 512
   hidden units of one expert at a time, the gate inside each part. -/
module

public import proofs.«01_k».proof.Proof.Gen.Pre_finite_nonnegative_gates
public import proofs.«01_k».proof.Pre_finite_nonnegative_gates
public import Idealize.ShloMosaic.Lib.Pointwise
public import Idealize.ShloMosaic.Lib.ValueIdx

@[expose] public section

set_option maxRecDepth 16384

noncomputable section

namespace Cert.Experts

open Idealize.ShloMosaic

/-- One hidden unit: the gate's projection through its sigmoid, times the other projection. -/
def unit (h g u : Fin 1024 → EReal) : EReal :=
  (∑ k, h k * g k) * Ideal.logistic (∑ k, h k * g k) * ∑ k, h k * u k

/-- One over one plus the exponential of the negated argument, as the kernel writes it. -/
theorem sigmoid_kernel (z : EReal) : Ideal.div 1 (1 + Ideal.exp (0 - z)) = Ideal.logistic z := by
  rw [zero_sub]
  rfl

/-- A sum of `512 * n` terms, 512 at a time. -/
theorem sum_chunks (n : ℕ) (f : ℕ → EReal) :
    ∑ k : Fin (512 * n), f k.val = ∑ c : Fin n, ∑ j : Fin 512, f (512 * c.val + j.val) := by
  rw [← Fintype.sum_prod_type' (f := fun (c : Fin n) (j : Fin 512) => f (512 * c.val + j.val))]
  refine Fintype.sum_equiv ((finCongr (Nat.mul_comm 512 n)).trans finProdFinEquiv.symm) _ _ fun k => ?_
  refine congrArg f ?_
  show k.val = 512 * (k.val / 512) + k.val % 512
  omega

/-- A finite number that is not negative distributes over any sum. -/
theorem mul_sum_of_nonneg {ι : Type*} (s : Finset ι) {a : EReal} (h0 : 0 ≤ a) (ht : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

variable (h : FVec Ideal ⟨2, ![10240, 1024]⟩ .f32) (gates : FVec Ideal ⟨2, ![10240, 128]⟩ .f32)
  (wg wu : FVec Ideal ⟨3, ![8, 1024, 3584]⟩ .f32) (wd : FVec Ideal ⟨3, ![8, 3584, 1024]⟩ .f32)

/-- Hidden unit `f` of expert `e` for token `t`, times its weight towards channel `j`. -/
def term (t : Fin 10240) (j : Fin 1024) (e : Fin 8) (f : Fin 3584) : EReal :=
  unit (fun k => h (ix2 t k)) (fun k => wg (ix3 e k f)) (fun k => wu (ix3 e k f)) * wd (ix3 e f j)

/-- The token after the experts: their outputs, each times its gate. -/
def result : FVec Ideal ⟨2, ![10240, 1024]⟩ .f32 := fun i =>
  ∑ e : Fin 8, gates (ix2 (i 0) ⟨e.val, by omega⟩) * ∑ f : Fin 3584, term h wg wu wd (i 0) (i 1) e f

theorem result_apply (t : Fin 10240) (j : Fin 1024) : result h gates wg wu wd (ix2 t j)
    = ∑ e : Fin 8, gates (ix2 t ⟨e.val, by omega⟩) * ∑ f : Fin 3584, term h wg wu wd t j e f := rfl

/-- Part `q` of expert `e`: 512 hidden units, each times the gate before its weight. -/
def part (t : Fin 10240) (j : Fin 1024) (e : Fin 8) (q : Fin 7) : EReal :=
  ∑ f : Fin 512, unit (fun k => h (ix2 t k)) (fun k => wg (ix3 e k ⟨512 * q.val + f.val, by omega⟩))
      (fun k => wu (ix3 e k ⟨512 * q.val + f.val, by omega⟩)) * gates (ix2 t ⟨e.val, by omega⟩)
    * wd (ix3 e ⟨512 * q.val + f.val, by omega⟩ j)

/-- The parts of an expert add to its output times its gate. -/
theorem parts_expert (t : Fin 10240) (j : Fin 1024) (e : Fin 8)
    (h0 : 0 ≤ gates (ix2 t ⟨e.val, by omega⟩)) (ht : gates (ix2 t ⟨e.val, by omega⟩) ≠ ⊤) :
    ∑ q : Fin 7, part h gates wg wu wd t j e q = gates (ix2 t ⟨e.val, by omega⟩) * ∑ f : Fin 3584, term h wg wu wd t j e f := by
  let F : ℕ → EReal := fun n => if hn : n < 3584 then gates (ix2 t ⟨e.val, by omega⟩) * term h wg wu wd t j e ⟨n, hn⟩ else 0
  have e1 : ∑ f : Fin 3584, gates (ix2 t ⟨e.val, by omega⟩) * term h wg wu wd t j e f = ∑ f : Fin (512 * 7), F f.val :=
    Finset.sum_congr rfl fun f _ => by simp only [F]; rw [dif_pos f.isLt]
  rw [mul_sum_of_nonneg _ h0 ht, e1, sum_chunks 7 F]
  refine Finset.sum_congr rfl fun q _ => Finset.sum_congr rfl fun f _ => ?_
  have hq := q.isLt
  have hf := f.isLt
  rw [show F (512 * q.val + f.val) = _ from dif_pos (by omega)]
  unfold term
  rw [mul_comm (unit _ _ _) (gates _), mul_assoc]

/-- The part that step `n` of a row tile's 56 adds. -/
def partAt (t : Fin 10240) (j : Fin 1024) (n : ℕ) : EReal :=
  part h gates wg wu wd t j ⟨n / 7 % 8, Nat.mod_lt _ (by decide)⟩ ⟨n % 7, Nat.mod_lt _ (by decide)⟩

/-- All 56 of them add to the experts. -/
theorem parts_eq (t : Fin 10240) (j : Fin 1024)
    (hg : ∀ e : Fin 8, 0 ≤ gates (ix2 t ⟨e.val, by omega⟩) ∧ gates (ix2 t ⟨e.val, by omega⟩) ≠ ⊤) :
    ∑ n ∈ Finset.range 56, partAt h gates wg wu wd t j n = result h gates wg wu wd (ix2 t j) := by
  rw [result_apply, Finset.sum_range (fun n => partAt h gates wg wu wd t j n)]
  have e1 : ∑ n : Fin 56, partAt h gates wg wu wd t j n.val
      = ∑ p : Fin 8 × Fin 7, part h gates wg wu wd t j p.1 p.2 := by
    refine Fintype.sum_equiv (finProdFinEquiv (m := 8) (n := 7)).symm _ _ fun n => ?_
    unfold partAt
    refine congrArg₂ (part h gates wg wu wd t j) (Fin.ext ?_) (Fin.ext rfl)
    show n.val / 7 % 8 = n.val / 7
    have := n.isLt
    omega
  rw [e1, Fintype.sum_prod_type]
  exact Finset.sum_congr rfl fun e _ => parts_expert h gates wg wu wd t j e (hg e).1 (hg e).2

/-! ## The precondition, read -/

open Cert.Pre_finite_nonnegative_gates in
theorem gates_ok (hp : fn (F := Ideal) h gates wg wu wd = fun _ => 1#1) (t : Fin 10240) (e : Fin 8) :
    0 ≤ gates (ix2 t ⟨e.val, by omega⟩) ∧ gates (ix2 t ⟨e.val, by omega⟩) ≠ ⊤ := by
  have e0 := congrFun hp (ix2 t e)
  unfold fn at e0
  pointwise at e0
  generalize gates (ix2 t ⟨e.val, _⟩) = x at e0 ⊢
  rw [show Ideal.ofBits .f32 0x7F800000#32 = ⊤ by simp [Ideal.ofBits, Ideal.ieee]] at e0
  by_cases h0 : 0 ≤ x
  · by_cases h1 : x < ⊤
    · exact ⟨h0, h1.ne⟩
    · simp [h1, IntOp.andi] at e0
  · simp [h0, IntOp.andi] at e0

end Cert.Experts

end
-- ==== Proof.Experts.Tile.lean ====
/- What the kernel adds to a row tile in a step: 512 hidden units of one expert, each times the token's gate, back to the channels. -/
module

public import proofs.«01_k».proof.Proof.Experts.Spec
public import proofs.«01_k».proof.Proof.Gen.KernelIdeal.Skeleton

@[expose] public section

set_option maxRecDepth 16384

noncomputable section

namespace Cert.Experts

open Idealize.ShloMosaic Cert.KernelIdeal Cert.KernelIdeal.Gen

/-- Which lane the kernel's comparison picks. -/
theorem lane_cmp : ∀ (e : Fin 8) (l : Fin 128),
    IntOp.cmpi CmpIPredicate.eq (BitVec.ofNat 32 l.val) (BitVec.ofNat 32 e.val) = if l.val = e.val then 1#1 else 0#1 := by
  decide +kernel

variable (x0 : Vec Ideal S1024x1024 .bf16) (x2 x3 : Vec Ideal S1x1024x512 .bf16) (w : BitVec 32) (x1 : Vec Ideal S1024x128 .f32)
  (x4 : Vec Ideal S1x512x1024 .bf16)

theorem step_apply (e : Fin 8) (hw : w = BitVec.ofNat 32 e.val) (r : Fin 1024) (j : Fin 1024) :
    k0_pay2 (F := Ideal) x0 x2 x3 w x1 x4 (ix2 r j)
      = ∑ f : Fin 512, unit (fun k => x0 (ix2 r k)) (fun k => x2 (ix3 0 k f)) (fun k => x3 (ix3 0 k f)) * x1 (ix2 r ⟨e.val, by omega⟩)
        * x4 (ix3 0 f j) := by
  pointwise [k0_pay2]
  have eg : (∑ l : Fin 128, Scalar.select (IntOp.cmpi CmpIPredicate.eq (BitVec.ofNat 32 l.val) w) (x1 (ix2 r l)) (0 : EReal))
      = x1 (ix2 r ⟨e.val, by omega⟩) := by
    rw [Finset.sum_eq_single_of_mem (⟨e.val, by omega⟩ : Fin 128) (Finset.mem_univ _) fun l _ hl => ?_]
    · rw [hw, lane_cmp e ⟨e.val, by omega⟩, if_pos rfl]
      rfl
    · rw [hw, lane_cmp e l, if_neg fun h => hl (Fin.ext h)]
      rfl
  refine Finset.sum_congr rfl fun f _ => ?_
  rw [eg, sigmoid_kernel]
  rfl

theorem add_apply (x y : FVec Ideal S1024x1024 .f32) (r : Fin 1024) (j : Fin 1024) :
    k0_pay1 (F := Ideal) x y (ix2 r j) = y (ix2 r j) + x (ix2 r j) := by
  pointwise [k0_pay1]

end Cert.Experts

end
-- ==== Proof.Experts.Ideal.Pins.lean ====
/- The three tables the prefix of host operations fills: the row tile, the expert and the first-point mark of each step. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev tbM0_0 : Memref sig .tc .smem S80 .i32 := Memref.whole main_v2
abbrev tbM0_1 : Memref sig .tc .smem S80 .i32 := Memref.whole main_v6
abbrev tbM0_2 : Memref sig .tc .smem S80 .i32 := Memref.whole main_v9

variable (ch : Fin 1)

def pinT_0 (ch : Fin 1) : S80.Idx → BitVec 32 := fun x => (([0#32, 0#32, 0#32, 0#32, 0#32, 0#32, 0#32, 0#32, 1#32, 1#32, 1#32, 1#32, 1#32, 1#32, 1#32, 1#32, 2#32, 2#32, 2#32, 2#32, 2#32, 2#32, 2#32, 2#32, 3#32, 3#32, 3#32, 3#32, 3#32, 3#32, 3#32, 3#32, 4#32, 4#32, 4#32, 4#32, 4#32, 4#32, 4#32, 4#32, 5#32, 5#32, 5#32, 5#32, 5#32, 5#32, 5#32, 5#32, 6#32, 6#32, 6#32, 6#32, 6#32, 6#32, 6#32, 6#32, 7#32, 7#32, 7#32, 7#32, 7#32, 7#32, 7#32, 7#32, 8#32, 8#32, 8#32, 8#32, 8#32, 8#32, 8#32, 8#32, 9#32, 9#32, 9#32, 9#32, 9#32, 9#32, 9#32, 9#32] : List (BitVec 32)).getD ((x 0).val) 0#32)

def pinT_1 (ch : Fin 1) : S80.Idx → BitVec 32 := fun x => (([0#32, 1#32, 2#32, 3#32, 4#32, 5#32, 6#32, 7#32, 0#32, 1#32, 2#32, 3#32, 4#32, 5#32, 6#32, 7#32, 0#32, 1#32, 2#32, 3#32, 4#32, 5#32, 6#32, 7#32, 0#32, 1#32, 2#32, 3#32, 4#32, 5#32, 6#32, 7#32, 0#32, 1#32, 2#32, 3#32, 4#32, 5#32, 6#32, 7#32, 0#32, 1#32, 2#32, 3#32, 4#32, 5#32, 6#32, 7#32, 0#32, 1#32, 2#32, 3#32, 4#32, 5#32, 6#32, 7#32, 0#32, 1#32, 2#32, 3#32, 4#32, 5#32, 6#32, 7#32, 0#32, 1#32, 2#32, 3#32, 4#32, 5#32, 6#32, 7#32, 0#32, 1#32, 2#32, 3#32, 4#32, 5#32, 6#32, 7#32] : List (BitVec 32)).getD ((x 0).val) 0#32)

def pinT_2 (ch : Fin 1) : S80.Idx → BitVec 32 := fun x => (([1#32, 0#32, 0#32, 0#32, 0#32, 0#32, 0#32, 0#32, 1#32, 0#32, 0#32, 0#32, 0#32, 0#32, 0#32, 0#32, 1#32, 0#32, 0#32, 0#32, 0#32, 0#32, 0#32, 0#32, 1#32, 0#32, 0#32, 0#32, 0#32, 0#32, 0#32, 0#32, 1#32, 0#32, 0#32, 0#32, 0#32, 0#32, 0#32, 0#32, 1#32, 0#32, 0#32, 0#32, 0#32, 0#32, 0#32, 0#32, 1#32, 0#32, 0#32, 0#32, 0#32, 0#32, 0#32, 0#32, 1#32, 0#32, 0#32, 0#32, 0#32, 0#32, 0#32, 0#32, 1#32, 0#32, 0#32, 0#32, 0#32, 0#32, 0#32, 0#32, 1#32, 0#32, 0#32, 0#32, 0#32, 0#32, 0#32, 0#32] : List (BitVec 32)).getD ((x 0).val) 0#32)

set_option backward.proofsInPublic true in

def pfN : pre0.Contents (Elt Ideal) := fun | ⟨0, _⟩ => pinT_0 ch | ⟨1, _⟩ => pinT_1 ch | ⟨2, _⟩ => pinT_2 ch | ⟨_ + 3, h⟩ => absurd h (by simp)

theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

abbrev V (m : (ℓ : Loc nD τ sig) → Buf (Elt Ideal) ℓ) (c : Dev nD) (b : Ref sig .tc) : Buf (Elt Ideal) ((c : Thread nD τ).loc b) :=
  StableHlo.after (hostOps0 (F := Ideal)) (fun b => m (c, b)) b

variable (m : (ℓ : Loc nD τ sig) → Buf (Elt Ideal) ℓ)

theorem tile_eq : ∀ (ch : Fin 1) (x : S80.Idx), shapeCast S80 (broadcastInDim S10x8 ![0] bcast_S10_S10x8_0 (iotaInDim S10 32 0))
    shapeCasts_S10x8_S80 x = pinT_0 ch x := by decide +kernel

theorem expert_eq : ∀ (ch : Fin 1) (x : S80.Idx), shapeCast S80 (broadcastInDim S10x8 ![0, 1] bcast_S1x8_S10x8_0_1
    (shapeCast S1x8 (iotaInDim S8 32 0) shapeCasts_S8_S1x8)) shapeCasts_S10x8_S80 x = pinT_1 ch x := by decide +kernel

theorem first_eq : ∀ (ch : Fin 1) (x : S80.Idx), extui 32 (cmpi CmpIPredicate.eq (pinT_1 ch)
    (broadcastInDim S80 ![] bcast_S_S80 (constantI S_ 32 0#32))) natLt_1_32 x = pinT_2 ch x := by decide +kernel

theorem V_v2 (c : Dev nD) : V m c main_v2 = pinT_0 ch := by
  unfold V; after_results
  exact funext (tile_eq ch)

theorem V_v6 (c : Dev nD) : V m c main_v6 = pinT_1 ch := by
  unfold V; after_results
  exact funext (expert_eq ch)

theorem V_v9 (c : Dev nD) : V m c main_v9 = pinT_2 ch := by
  unfold V; after_results
  refine Eq.trans ?_ (funext (first_eq ch))
  rw [← funext (expert_eq ch)]
  rfl

end Cert.KernelIdeal.Experts

end
-- ==== Proof.Experts.Ideal.Runs.lean ====
/- The body on each of its two paths: at the first point of a row tile the contribution is stored, at the others it is added to what the tile holds. -/
module

public import proofs.«01_k».proof.Proof.Gen.KernelIdeal.Skeleton
public import proofs.«01_k».proof.Proof.Experts.Ideal.Pins

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev VO0_5 : View sig .tc .vmem S1024x1024 .f32 := (Memref.whole cc0_stg5_0 : Memref sig .tc .vmem S1024x1024 .f32).view

set_option backward.proofsInPublic true in
set_option maxHeartbeats 8000000 in

noncomputable def kernelRun0_A (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Ideal .i32)) (T1 : (S80.Idx → Elt Ideal .i32)) (T2 : (S80.Idx → Elt Ideal .i32))
     (x0 : (S1024x1024.Idx → Elt Ideal .bf16)) (x1 : (S1024x128.Idx → Elt Ideal .f32)) (x2 : (S1x1024x512.Idx → Elt Ideal .bf16)) (x3 : (S1x1024x512.Idx → Elt Ideal .bf16)) (x4 : (S1x512x1024.Idx → Elt Ideal .bf16)) (k0_h1 : k0_cond1 i (View.readAt (Elt Ideal) (tbM0_2).view (Rect.unit (s := S80) (k0_off1 i) S1.size (k0_off1_inb i)).toLoadRect T2 (Shape.Idx.first (numel1_S1.symm ▸ Nat.one_pos))) = 1#1) (k0_h2 : ¬(k0_cond2 i (View.readAt (Elt Ideal) (tbM0_2).view (Rect.unit (s := S80) (k0_off1 i) S1.size (k0_off1_inb i)).toLoadRect T2 (Shape.Idx.first (numel1_S1.symm ▸ Nat.one_pos))) = 1#1)) :
    { out0 : List (View.Piece (Elt Ideal) S1024x1024 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg10 fullShare d)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg10.view.loc (c : Thread nD τ) ↦[arg10.view.set]{fullShare} arg10.view.writes (Elt Ideal) f out0)) -∗ K ⟨⟩))
          ⊢ wp frame (wpE (defs₀ (F := Ideal)) Variants.none c none) Set.univ (cc0_ffn_experts i tbM0_0 (Memref.isWhole_whole _) tbM0_1 (Memref.isWhole_whole _) tbM0_2 (Memref.isWhole_whole _) arg5 harg5 arg6 harg6 arg7 harg7 arg8 harg8 arg9 harg9 arg10 harg10) K } :=
  ⟨_, fun K => by
    unfold owns
    rw [cc0_ffn_experts_eq_skeleton]; unfold cc0_ffn_experts_skel
    iintro ⟨H0, H1, H2, H3, H4, HT0, HT1, HT2, ⟨%d5, %f5, -, HO5⟩, Hk⟩
    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    iexists _; iexact HO5⟩

theorem cover0_A_5 (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Ideal .i32)) (T1 : (S80.Idx → Elt Ideal .i32)) (T2 : (S80.Idx → Elt Ideal .i32))
     (x0 : (S1024x1024.Idx → Elt Ideal .bf16)) (x1 : (S1024x128.Idx → Elt Ideal .f32)) (x2 : (S1x1024x512.Idx → Elt Ideal .bf16)) (x3 : (S1x1024x512.Idx → Elt Ideal .bf16)) (x4 : (S1x512x1024.Idx → Elt Ideal .bf16)) (k0_h1 : k0_cond1 i (View.readAt (Elt Ideal) (tbM0_2).view (Rect.unit (s := S80) (k0_off1 i) S1.size (k0_off1_inb i)).toLoadRect T2 (Shape.Idx.first (numel1_S1.symm ▸ Nat.one_pos))) = 1#1) (k0_h2 : ¬(k0_cond2 i (View.readAt (Elt Ideal) (tbM0_2).view (Rect.unit (s := S80) (k0_off1 i) S1.size (k0_off1_inb i)).toLoadRect T2 (Shape.Idx.first (numel1_S1.symm ▸ Nat.one_pos))) = 1#1)) (y : S1024x1024.Idx) :
    ∃ pc ∈ (kernelRun0_A c i arg5 harg5 arg6 harg6 arg7 harg7 arg8 harg8 arg9 harg9 arg10 harg10 T0 T1 T2 x0 x1 x2 x3 x4 k0_h1 k0_h2).1, y ∈ pc.1.set :=
  View.cover_of_tiledL (kernelRun0_A c i arg5 harg5 arg6 harg6 arg7 harg7 arg8 harg8 arg9 harg9 arg10 harg10 T0 T1 T2 x0 x1 x2 x3 x4 k0_h1 k0_h2).1 S1024x1024.size (by sl_kernel_rfl) y

def out0_A_5 (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Ideal .i32)) (T1 : (S80.Idx → Elt Ideal .i32)) (T2 : (S80.Idx → Elt Ideal .i32))
     (x0 : (S1024x1024.Idx → Elt Ideal .bf16)) (x1 : (S1024x128.Idx → Elt Ideal .f32)) (x2 : (S1x1024x512.Idx → Elt Ideal .bf16)) (x3 : (S1x1024x512.Idx → Elt Ideal .bf16)) (x4 : (S1x512x1024.Idx → Elt Ideal .bf16)) (k0_h1 : k0_cond1 i (View.readAt (Elt Ideal) (tbM0_2).view (Rect.unit (s := S80) (k0_off1 i) S1.size (k0_off1_inb i)).toLoadRect T2 (Shape.Idx.first (numel1_S1.symm ▸ Nat.one_pos))) = 1#1) (k0_h2 : ¬(k0_cond2 i (View.readAt (Elt Ideal) (tbM0_2).view (Rect.unit (s := S80) (k0_off1 i) S1.size (k0_off1_inb i)).toLoadRect T2 (Shape.Idx.first (numel1_S1.symm ▸ Nat.one_pos))) = 1#1)) : (S1024x1024.Idx → Elt Ideal .f32) :=
  VO0_5.read (Elt Ideal) (VO0_5.writes (Elt Ideal) VO0_5.junk (kernelRun0_A c i arg5 harg5 arg6 harg6 arg7 harg7 arg8 harg8 arg9 harg9 arg10 harg10 T0 T1 T2 x0 x1 x2 x3 x4 k0_h1 k0_h2).1)

set_option backward.proofsInPublic true in
set_option maxHeartbeats 8000000 in

noncomputable def kernelRun0_B (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Ideal .i32)) (T1 : (S80.Idx → Elt Ideal .i32)) (T2 : (S80.Idx → Elt Ideal .i32))
     (x0 : (S1024x1024.Idx → Elt Ideal .bf16)) (x1 : (S1024x128.Idx → Elt Ideal .f32)) (x2 : (S1x1024x512.Idx → Elt Ideal .bf16)) (x3 : (S1x1024x512.Idx → Elt Ideal .bf16)) (x4 : (S1x512x1024.Idx → Elt Ideal .bf16)) (xo5 : (S1024x1024.Idx → Elt Ideal .f32)) (k0_h1 : ¬(k0_cond1 i (View.readAt (Elt Ideal) (tbM0_2).view (Rect.unit (s := S80) (k0_off1 i) S1.size (k0_off1_inb i)).toLoadRect T2 (Shape.Idx.first (numel1_S1.symm ▸ Nat.one_pos))) = 1#1)) (k0_h2 : k0_cond2 i (View.readAt (Elt Ideal) (tbM0_2).view (Rect.unit (s := S80) (k0_off1 i) S1.size (k0_off1_inb i)).toLoadRect T2 (Shape.Idx.first (numel1_S1.symm ▸ Nat.one_pos))) = 1#1) :
    { out0 : List (View.Piece (Elt Ideal) S1024x1024 .f32) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg10 fullShare xo5
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg10.view.loc (c : Thread nD τ) ↦[arg10.view.set]{fullShare} arg10.view.writes (Elt Ideal) f out0)) -∗ K ⟨⟩))
          ⊢ wp frame (wpE (defs₀ (F := Ideal)) Variants.none c none) Set.univ (cc0_ffn_experts i tbM0_0 (Memref.isWhole_whole _) tbM0_1 (Memref.isWhole_whole _) tbM0_2 (Memref.isWhole_whole _) arg5 harg5 arg6 harg6 arg7 harg7 arg8 harg8 arg9 harg9 arg10 harg10) K } :=
  ⟨_, fun K => by
    unfold owns
    rw [cc0_ffn_experts_eq_skeleton]; unfold cc0_ffn_experts_skel
    iintro ⟨H0, H1, H2, H3, H4, HT0, HT1, HT2, ⟨%f5, %hf5, HO5⟩, Hk⟩
    obtain rfl := harg10.eq_unread hf5
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    iexists _; iexact HO5⟩

theorem cover0_B_5 (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Ideal .i32)) (T1 : (S80.Idx → Elt Ideal .i32)) (T2 : (S80.Idx → Elt Ideal .i32))
     (x0 : (S1024x1024.Idx → Elt Ideal .bf16)) (x1 : (S1024x128.Idx → Elt Ideal .f32)) (x2 : (S1x1024x512.Idx → Elt Ideal .bf16)) (x3 : (S1x1024x512.Idx → Elt Ideal .bf16)) (x4 : (S1x512x1024.Idx → Elt Ideal .bf16)) (xo5 : (S1024x1024.Idx → Elt Ideal .f32)) (k0_h1 : ¬(k0_cond1 i (View.readAt (Elt Ideal) (tbM0_2).view (Rect.unit (s := S80) (k0_off1 i) S1.size (k0_off1_inb i)).toLoadRect T2 (Shape.Idx.first (numel1_S1.symm ▸ Nat.one_pos))) = 1#1)) (k0_h2 : k0_cond2 i (View.readAt (Elt Ideal) (tbM0_2).view (Rect.unit (s := S80) (k0_off1 i) S1.size (k0_off1_inb i)).toLoadRect T2 (Shape.Idx.first (numel1_S1.symm ▸ Nat.one_pos))) = 1#1) (y : S1024x1024.Idx) :
    ∃ pc ∈ (kernelRun0_B c i arg5 harg5 arg6 harg6 arg7 harg7 arg8 harg8 arg9 harg9 arg10 harg10 T0 T1 T2 x0 x1 x2 x3 x4 xo5 k0_h1 k0_h2).1, y ∈ pc.1.set :=
  View.cover_of_tiledL (kernelRun0_B c i arg5 harg5 arg6 harg6 arg7 harg7 arg8 harg8 arg9 harg9 arg10 harg10 T0 T1 T2 x0 x1 x2 x3 x4 xo5 k0_h1 k0_h2).1 S1024x1024.size (by sl_kernel_rfl) y

def out0_B_5 (c : Dev nD) (i : grid0.Coords) (arg5 : Memref sig .tc .vmem S1024x1024 .bf16) (harg5 : arg5.IsWhole) (arg6 : Memref sig .tc .vmem S1024x128 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1024x1024 .f32) (harg10 : arg10.IsWhole) (T0 : (S80.Idx → Elt Ideal .i32)) (T1 : (S80.Idx → Elt Ideal .i32)) (T2 : (S80.Idx → Elt Ideal .i32))
     (x0 : (S1024x1024.Idx → Elt Ideal .bf16)) (x1 : (S1024x128.Idx → Elt Ideal .f32)) (x2 : (S1x1024x512.Idx → Elt Ideal .bf16)) (x3 : (S1x1024x512.Idx → Elt Ideal .bf16)) (x4 : (S1x512x1024.Idx → Elt Ideal .bf16)) (xo5 : (S1024x1024.Idx → Elt Ideal .f32)) (k0_h1 : ¬(k0_cond1 i (View.readAt (Elt Ideal) (tbM0_2).view (Rect.unit (s := S80) (k0_off1 i) S1.size (k0_off1_inb i)).toLoadRect T2 (Shape.Idx.first (numel1_S1.symm ▸ Nat.one_pos))) = 1#1)) (k0_h2 : k0_cond2 i (View.readAt (Elt Ideal) (tbM0_2).view (Rect.unit (s := S80) (k0_off1 i) S1.size (k0_off1_inb i)).toLoadRect T2 (Shape.Idx.first (numel1_S1.symm ▸ Nat.one_pos))) = 1#1) : (S1024x1024.Idx → Elt Ideal .f32) :=
  VO0_5.read (Elt Ideal) (VO0_5.writes (Elt Ideal) VO0_5.junk (kernelRun0_B c i arg5 harg5 arg6 harg6 arg7 harg7 arg8 harg8 arg9 harg9 arg10 harg10 T0 T1 T2 x0 x1 x2 x3 x4 xo5 k0_h1 k0_h2).1)

end Cert.KernelIdeal.Experts

end
-- ==== Proof.Experts.Ideal.Ok0.lean ====
/- Every block the tables choose lies inside its array. -/
module

public import proofs.«01_k».proof.Proof.Experts.Ideal.Pins

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem ok_pfN_0_0_inb : ∀ i : grid0.Coords, ∀ a, (cc0_transform_0 k0_off1_inb numel1_S1 (pfN (⟨0, by omega⟩ : Fin 1)) i a + 1) * S1024x1024.size a ≤ S10240x1024.size a := by decide +kernel
theorem ok_pfN_0_0 : (∀ i : grid0.Coords, ∃ h : (∀ a, (cc0_transform_0 k0_off1_inb numel1_S1 (pfN (⟨0, by omega⟩ : Fin 1)) i a + 1) * S1024x1024.size a ≤ S10240x1024.size a), EltTy.bits .bf16 = 32 ∨ (Rect.block (s := S10240x1024) S1024x1024.size (cc0_transform_0 k0_off1_inb numel1_S1 (pfN (⟨0, by omega⟩ : Fin 1)) i) h).WholeWords (EltTy.packing .bf16)) := fun i => ⟨ok_pfN_0_0_inb i, .inr (Affine.block_words_dvd (s := S10240x1024) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S1024x128.size a ≤ S10240x128.size a := by decide +kernel
theorem ok_pfN_0_1 : (∀ i : grid0.Coords, ∃ h : (∀ a, (cc0_transform_1 k0_off1_inb numel1_S1 (pfN (⟨0, by omega⟩ : Fin 1)) i a + 1) * S1024x128.size a ≤ S10240x128.size a), EltTy.bits .f32 = 32 ∨ (Rect.block (s := S10240x128) S1024x128.size (cc0_transform_1 k0_off1_inb numel1_S1 (pfN (⟨0, by omega⟩ : Fin 1)) i) h).WholeWords (EltTy.packing .f32)) := fun i => ⟨ok_pfN_0_1_inb i, .inl rfl⟩
theorem ok_pfN_0_2_inb : ∀ i : grid0.Coords, ∀ a, (cc0_transform_2 k0_off1_inb numel1_S1 (pfN (⟨0, by omega⟩ : Fin 1)) i a + 1) * S1x1024x512.size a ≤ S8x1024x3584.size a := by decide +kernel
theorem ok_pfN_0_2 : (∀ i : grid0.Coords, ∃ h : (∀ a, (cc0_transform_2 k0_off1_inb numel1_S1 (pfN (⟨0, by omega⟩ : Fin 1)) i a + 1) * S1x1024x512.size a ≤ S8x1024x3584.size a), EltTy.bits .bf16 = 32 ∨ (Rect.block (s := S8x1024x3584) S1x1024x512.size (cc0_transform_2 k0_off1_inb numel1_S1 (pfN (⟨0, by omega⟩ : Fin 1)) i) h).WholeWords (EltTy.packing .bf16)) := fun i => ⟨ok_pfN_0_2_inb i, .inr (Affine.block_words_dvd (s := S8x1024x3584) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S1x1024x512.size a ≤ S8x1024x3584.size a := by decide +kernel
theorem ok_pfN_0_3 : (∀ i : grid0.Coords, ∃ h : (∀ a, (cc0_transform_3 k0_off1_inb numel1_S1 (pfN (⟨0, by omega⟩ : Fin 1)) i a + 1) * S1x1024x512.size a ≤ S8x1024x3584.size a), EltTy.bits .bf16 = 32 ∨ (Rect.block (s := S8x1024x3584) S1x1024x512.size (cc0_transform_3 k0_off1_inb numel1_S1 (pfN (⟨0, by omega⟩ : Fin 1)) i) h).WholeWords (EltTy.packing .bf16)) := fun i => ⟨ok_pfN_0_3_inb i, .inr (Affine.block_words_dvd (s := S8x1024x3584) (p := EltTy.packing .bf16) (by decide) (by decide))⟩
theorem ok_pfN_0_4_inb : ∀ i : grid0.Coords, ∀ a, (cc0_transform_4 k0_off1_inb numel1_S1 (pfN (⟨0, by omega⟩ : Fin 1)) i a + 1) * S1x512x1024.size a ≤ S8x3584x1024.size a := by decide +kernel
theorem ok_pfN_0_4 : (∀ i : grid0.Coords, ∃ h : (∀ a, (cc0_transform_4 k0_off1_inb numel1_S1 (pfN (⟨0, by omega⟩ : Fin 1)) i a + 1) * S1x512x1024.size a ≤ S8x3584x1024.size a), EltTy.bits .bf16 = 32 ∨ (Rect.block (s := S8x3584x1024) S1x512x1024.size (cc0_transform_4 k0_off1_inb numel1_S1 (pfN (⟨0, by omega⟩ : Fin 1)) i) h).WholeWords (EltTy.packing .bf16)) := fun i => ⟨ok_pfN_0_4_inb i, .inr (Affine.block_words_dvd (s := S8x3584x1024) (p := EltTy.packing .bf16) (by decide) (by decide))⟩
theorem ok_pfN_0_5_inb : ∀ i : grid0.Coords, ∀ a, (cc0_transform_5 k0_off1_inb numel1_S1 (pfN (⟨0, by omega⟩ : Fin 1)) i a + 1) * S1024x1024.size a ≤ S10240x1024.size a := by decide +kernel
theorem ok_pfN_0_5 : (∀ i : grid0.Coords, ∃ h : (∀ a, (cc0_transform_5 k0_off1_inb numel1_S1 (pfN (⟨0, by omega⟩ : Fin 1)) i a + 1) * S1024x1024.size a ≤ S10240x1024.size a), EltTy.bits .f32 = 32 ∨ (Rect.block (s := S10240x1024) S1024x1024.size (cc0_transform_5 k0_off1_inb numel1_S1 (pfN (⟨0, by omega⟩ : Fin 1)) i) h).WholeWords (EltTy.packing .f32)) := fun i => ⟨ok_pfN_0_5_inb i, .inl rfl⟩
theorem ok_pfN_0 : ok0 (F := Ideal) (pfN (⟨0, by omega⟩ : Fin 1)) := ⟨ok_pfN_0_0, ok_pfN_0_1, ok_pfN_0_2, ok_pfN_0_3, ok_pfN_0_4, ok_pfN_0_5⟩

end Cert.KernelIdeal.Experts

end
-- ==== Proof.Experts.Ideal.Cfg.lean ====
/- The pipeline at those tables, its points, blocks and which path a point takes. -/
module

public import proofs.«01_k».proof.Proof.Experts.Ideal.Ok0

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (ch : Fin 1)

theorem ok_pfN : ∀ ch : Fin 1, ok0 (F := Ideal) (pfN ch) := fun ch => match ch with
  | ⟨0, _⟩ => ok_pfN_0
  | ⟨_ + 1, h⟩ => absurd h (by omega)

def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

abbrev crd (t : Fin (cfgA ch).N) : (cfgA ch).grid.Coords := (cfgA ch).grid.coords t

abbrev ms0_0 (t : Fin (cfgA ch).N) : Memref sig .tc .vmem S1024x1024 .bf16 := spec0_0.stage ((cfgA ch).slots t (0 : Fin 6))
abbrev hs0_0 (t : Fin (cfgA ch).N) : (ms0_0 ch t).IsWhole := hstage0_0 (((cfgA ch).slots t (0 : Fin 6)).cast nbuf0_0)
abbrev ms0_1 (t : Fin (cfgA ch).N) : Memref sig .tc .vmem S1024x128 .f32 := spec0_1.stage ((cfgA ch).slots t (1 : Fin 6))
abbrev hs0_1 (t : Fin (cfgA ch).N) : (ms0_1 ch t).IsWhole := hstage0_1 (((cfgA ch).slots t (1 : Fin 6)).cast nbuf0_1)
abbrev ms0_2 (t : Fin (cfgA ch).N) : Memref sig .tc .vmem S1x1024x512 .bf16 := spec0_2.stage ((cfgA ch).slots t (2 : Fin 6))
abbrev hs0_2 (t : Fin (cfgA ch).N) : (ms0_2 ch t).IsWhole := hstage0_2 (((cfgA ch).slots t (2 : Fin 6)).cast nbuf0_2)
abbrev ms0_3 (t : Fin (cfgA ch).N) : Memref sig .tc .vmem S1x1024x512 .bf16 := spec0_3.stage ((cfgA ch).slots t (3 : Fin 6))
abbrev hs0_3 (t : Fin (cfgA ch).N) : (ms0_3 ch t).IsWhole := hstage0_3 (((cfgA ch).slots t (3 : Fin 6)).cast nbuf0_3)
abbrev ms0_4 (t : Fin (cfgA ch).N) : Memref sig .tc .vmem S1x512x1024 .bf16 := spec0_4.stage ((cfgA ch).slots t (4 : Fin 6))
abbrev hs0_4 (t : Fin (cfgA ch).N) : (ms0_4 ch t).IsWhole := hstage0_4 (((cfgA ch).slots t (4 : Fin 6)).cast nbuf0_4)
abbrev ms0_5 (t : Fin (cfgA ch).N) : Memref sig .tc .vmem S1024x1024 .f32 := spec0_5.stage ((cfgA ch).slots t (5 : Fin 6))
abbrev hs0_5 (t : Fin (cfgA ch).N) : (ms0_5 ch t).IsWhole := hstage0_5 (((cfgA ch).slots t (5 : Fin 6)).cast nbuf0_5)

def iblk (ρ : Dev nD → PrngReg) (c : Dev nD) (w : Fin (cfgA ch).W) (t : Fin (cfgA ch).N) : (((cfgA ch).win w).xblock (crd ch t)).Idx → Elt Ideal ((cfgA ch).win w).elt :=
  (((cfgA ch).win w).blk t).view.read (Elt Ideal) (V m c (Pipeline.arrRef (cfgA ch).spec w))

abbrev P0_0 (t : Fin (cfgA ch).N) : Prop := k0_cond1 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1

set_option backward.proofsInPublic true in

def frMask0_5 : Fin 1 → ℕ
  | ⟨0, _⟩ => 0x80000000000000800000000000008000000000000080000000000000800000000000008000000000000080000000000000800000000000008000000000000080000000000000
  | ⟨_ + 1, h⟩ => absurd h (by omega)

def frTab0_5 : ℕ → Bool
  | 0 => true
  | n + 1 => (frMask0_5 ch).testBit n

end Cert.KernelIdeal.Experts

end
-- ==== Proof.Experts.Ideal.Facts.lean ====
/- The facts about a point that are decided over the grid. -/
module

public import proofs.«01_k».proof.Proof.Experts.Ideal.Cfg

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ
variable (ch : Fin 1)
variable (m : (ℓ : Loc nD τ sig) → Buf (Elt Ideal) ℓ) (ρ : Dev nD → PrngReg)

abbrev FactsAt (ch : Fin 1) (t : Fin (cfgA ch).N) : Prop :=
  -- frTab0_5_step, hyps0_A, sched0_A, hyps0_B, sched0_B
  (frTab0_5 ch (t.val + 1) = (((cfgA ch).win (5 : Fin 6)).flush t || ((cfgA ch).idle (5 : Fin 6) ((cfgA ch).grid.coords t) && frTab0_5 ch t.val)))
  ∧ (P0_0 ch t → (k0_cond1 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1) ∧ ((¬(k0_cond2 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1)) ∧ (True)))
  ∧ (P0_0 ch t → (cfgA ch).idle (5 : Fin 6) ((cfgA ch).grid.coords t) = false ∧ ((cfgA ch).win (5 : Fin 6)).flush t = false ∧ frTab0_5 ch t.val = true)
  ∧ (¬P0_0 ch t → (¬(k0_cond1 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1)) ∧ ((k0_cond2 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1) ∧ (True)))
  ∧ (¬P0_0 ch t → (cfgA ch).idle (5 : Fin 6) ((cfgA ch).grid.coords t) = false ∧ frTab0_5 ch t.val = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (inferInstance))))

end Cert.KernelIdeal.Experts

end
-- ==== Proof.Experts.Ideal.Facts0.lean ====
/- Those facts, decided in stretches of 70 points. -/
module

public import proofs.«01_k».proof.Proof.Experts.Ideal.Facts

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem allFacts_0_0 : ∀ t : Fin (cfgA (⟨0, by omega⟩ : Fin 1)).N, 0 ≤ t.val → t.val < 70 → FactsAt (⟨0, by omega⟩ : Fin 1) t := by decide +kernel
theorem allFacts_0_1 : ∀ t : Fin (cfgA (⟨0, by omega⟩ : Fin 1)).N, 70 ≤ t.val → t.val < 140 → FactsAt (⟨0, by omega⟩ : Fin 1) t := by decide +kernel
theorem allFacts_0_2 : ∀ t : Fin (cfgA (⟨0, by omega⟩ : Fin 1)).N, 140 ≤ t.val → t.val < 210 → FactsAt (⟨0, by omega⟩ : Fin 1) t := by decide +kernel
theorem allFacts_0_3 : ∀ t : Fin (cfgA (⟨0, by omega⟩ : Fin 1)).N, 210 ≤ t.val → t.val < 280 → FactsAt (⟨0, by omega⟩ : Fin 1) t := by decide +kernel
theorem allFacts_0_4 : ∀ t : Fin (cfgA (⟨0, by omega⟩ : Fin 1)).N, 280 ≤ t.val → t.val < 350 → FactsAt (⟨0, by omega⟩ : Fin 1) t := by decide +kernel
theorem allFacts_0_5 : ∀ t : Fin (cfgA (⟨0, by omega⟩ : Fin 1)).N, 350 ≤ t.val → t.val < 420 → FactsAt (⟨0, by omega⟩ : Fin 1) t := by decide +kernel
theorem allFacts_0_6 : ∀ t : Fin (cfgA (⟨0, by omega⟩ : Fin 1)).N, 420 ≤ t.val → t.val < 490 → FactsAt (⟨0, by omega⟩ : Fin 1) t := by decide +kernel
theorem allFacts_0_7 : ∀ t : Fin (cfgA (⟨0, by omega⟩ : Fin 1)).N, 490 ≤ t.val → t.val < 560 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 70 with h1 | h1; · exact allFacts_0_0 t h0 h1
  rcases Nat.lt_or_ge t.val 140 with h2 | h2; · exact allFacts_0_1 t h1 h2
  rcases Nat.lt_or_ge t.val 210 with h3 | h3; · exact allFacts_0_2 t h2 h3
  rcases Nat.lt_or_ge t.val 280 with h4 | h4; · exact allFacts_0_3 t h3 h4
  rcases Nat.lt_or_ge t.val 350 with h5 | h5; · exact allFacts_0_4 t h4 h5
  rcases Nat.lt_or_ge t.val 420 with h6 | h6; · exact allFacts_0_5 t h5 h6
  rcases Nat.lt_or_ge t.val 490 with h7 | h7; · exact allFacts_0_6 t h6 h7
  exact allFacts_0_7 t h7 t.isLt

end Cert.KernelIdeal.Experts

end
-- ==== Proof.Experts.Ideal.Frame.lean ====
/- What the output tile holds after each point, the body at a point, and the run of the whole call after its host operations. -/
module

public import proofs.«01_k».proof.Proof.Experts.Ideal.Runs
public import proofs.«01_k».proof.Proof.Experts.Ideal.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (ch : Fin 1)
variable (m : (ℓ : Loc nD τ sig) → Buf (Elt Ideal) ℓ) (ρ : Dev nD → PrngReg)

theorem allFacts : ∀ (ch : Fin 1) (t : Fin (cfgA ch).N), FactsAt ch t := fun ch => match ch with
  | ⟨0, _⟩ => allFacts_0
  | ⟨_ + 1, h⟩ => absurd h (by omega)

theorem frTab0_5_step : ∀ (ch : Fin 1) (t : Fin (cfgA ch).N),
    frTab0_5 ch (t.val + 1) = (((cfgA ch).win (5 : Fin 6)).flush t || ((cfgA ch).idle (5 : Fin 6) ((cfgA ch).grid.coords t) && frTab0_5 ch t.val)) := fun ch t => (allFacts ch t).1
theorem freshF0_5 (t : Fin (cfgA ch).N) : (cfgA ch).fresh (5 : Fin 6) t.val = frTab0_5 ch t.val :=
  Pipeline.Cfg.fresh_tab (cfgA ch) (5 : Fin 6) (frTab0_5 ch) rfl (frTab0_5_step ch) t.val (Nat.le_of_lt t.isLt)

theorem hyps0_A : ∀ (ch : Fin 1) (t : Fin (cfgA ch).N), P0_0 ch t →
    (k0_cond1 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1) ∧ ((¬(k0_cond2 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1)) ∧ (True)) := fun ch t => (allFacts ch t).2.1

theorem hypsR0_A : ∀ (ch : Fin 1) (t : Fin (cfgA ch).N), P0_0 ch t →
    (k0_cond1 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1) ∧ ((¬(k0_cond2 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1)) ∧ (True)) := hyps0_A

theorem sched0_A : ∀ (ch : Fin 1) (t : Fin (cfgA ch).N), P0_0 ch t →
    (cfgA ch).idle (5 : Fin 6) ((cfgA ch).grid.coords t) = false ∧ ((cfgA ch).win (5 : Fin 6)).flush t = false ∧ (cfgA ch).fresh (5 : Fin 6) t.val = true := by
  intro ch t; rw [freshF0_5 ch t]; exact (fun ch t => (allFacts ch t).2.2.1) ch t

theorem hyps0_B : ∀ (ch : Fin 1) (t : Fin (cfgA ch).N), ¬P0_0 ch t →
    (¬(k0_cond1 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1)) ∧ ((k0_cond2 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1) ∧ (True)) := fun ch t => (allFacts ch t).2.2.2.1

theorem hypsR0_B : ∀ (ch : Fin 1) (t : Fin (cfgA ch).N), ¬P0_0 ch t →
    (¬(k0_cond1 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1)) ∧ ((k0_cond2 (crd ch t) (View.readAt (Elt Ideal) (tbM0_2).view (Rect.unit (s := S80) (k0_off1 (crd ch t)) S1.size (k0_off1_inb (crd ch t))).toLoadRect (pinT_2 ch) (Shape.Idx.first (numel1_S1.symm ▸ Nat.one_pos))) = 1#1) ∧ (True)) := hyps0_B

theorem sched0_B : ∀ (ch : Fin 1) (t : Fin (cfgA ch).N), ¬P0_0 ch t →
    (cfgA ch).idle (5 : Fin 6) ((cfgA ch).grid.coords t) = false ∧ (cfgA ch).fresh (5 : Fin 6) t.val = false := by
  intro ch t; rw [freshF0_5 ch t]; exact (fun ch t => (allFacts ch t).2.2.2.2) ch t

def step0 (c : Dev nD) (t : Fin (cfgA ch).N) (prev : (S1024x1024.Idx → Elt Ideal .f32)) : (S1024x1024.Idx → Elt Ideal .f32) :=
  if q0 : P0_0 ch t then
    out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0).1 (hypsR0_A ch t q0).2.1
  else
    out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) prev (hypsR0_B ch t q0).1 (hypsR0_B ch t q0).2.1

def traj0 (c : Dev nD) : (n : ℕ) → n < (cfgA ch).N → (S1024x1024.Idx → Elt Ideal .f32)
  | 0, h => step0 ch m ρ c ⟨0, h⟩ default
  | n + 1, h => step0 ch m ρ c ⟨n + 1, h⟩ (traj0 c n (Nat.lt_of_succ_lt h))

def prev0 (c : Dev nD) (t : Fin (cfgA ch).N) : (S1024x1024.Idx → Elt Ideal .f32) :=
  if h : t.val = 0 then default else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S1024x1024.Idx → Elt Ideal .f32)) (q0 : P0_0 ch t) :
    step0 ch m ρ c t prev = out0_A_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0).1 (hypsR0_A ch t q0).2.1 := by
  unfold step0; simp only [dif_pos q0]

theorem step0_B (c : Dev nD) (t : Fin (cfgA ch).N) (prev : (S1024x1024.Idx → Elt Ideal .f32)) (q0 : ¬P0_0 ch t) :
    step0 ch m ρ c t prev = out0_B_5 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) prev (hypsR0_B ch t q0).1 (hypsR0_B ch t q0).2.1 := by
  unfold step0; simp only [dif_neg q0]

def prev0T (c : Dev nD) (t : Fin ((cfgA ch).N + 1)) : (S1024x1024.Idx → Elt Ideal .f32) :=
  if h : t.val = 0 then default else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

def Phi (m : (ℓ : Loc nD τ sig) → Buf (Elt Ideal) ℓ) (ρ : Dev nD → PrngReg) (c : Dev nD) (t : Fin ((cfgA ch).N + 1)) : sProp 𝕄 :=
  iprop((tbM0_0.view.loc (c : Thread nD τ) ↦{fullShare.right} pinT_0 ch) ∗ (tbM0_1.view.loc (c : Thread nD τ) ↦{fullShare.right} pinT_1 ch) ∗ (tbM0_2.view.loc (c : Thread nD τ) ↦{fullShare.right} pinT_2 ch) ∗ Pipeline.ΦA (U := UR sig nD τ) spec0 c)

def dats (_ : Fin 1) (c : Dev nD) : Dat τ (Elt Ideal) Unit ℕ (UR sig nD τ) ℕ (cfgA ch) c where
  A w := V m c (Pipeline.arrRef (cfgA ch).spec w)
  after w t := match w with
    | ⟨0, _⟩ => iblk ch m ρ c (0 : Fin 6) t
    | ⟨1, _⟩ => iblk ch m ρ c (1 : Fin 6) t
    | ⟨2, _⟩ => iblk ch m ρ c (2 : Fin 6) t
    | ⟨3, _⟩ => iblk ch m ρ c (3 : Fin 6) t
    | ⟨4, _⟩ => iblk ch m ρ c (4 : Fin 6) t
    | ⟨5, _⟩ => (traj0 ch m ρ c t.val t.isLt)
  Φ t := Phi ch m ρ c t
  q _ := fullShare
  owed _ := 0

theorem after0_0 (c : Dev nD) (t : Fin (cfgA ch).N) : (dats ch m ρ 0 c).after (0 : Fin 6) t = iblk ch m ρ c (0 : Fin 6) t := rfl
theorem after0_1 (c : Dev nD) (t : Fin (cfgA ch).N) : (dats ch m ρ 0 c).after (1 : Fin 6) t = iblk ch m ρ c (1 : Fin 6) t := rfl
theorem after0_2 (c : Dev nD) (t : Fin (cfgA ch).N) : (dats ch m ρ 0 c).after (2 : Fin 6) t = iblk ch m ρ c (2 : Fin 6) t := rfl
theorem after0_3 (c : Dev nD) (t : Fin (cfgA ch).N) : (dats ch m ρ 0 c).after (3 : Fin 6) t = iblk ch m ρ c (3 : Fin 6) t := rfl
theorem after0_4 (c : Dev nD) (t : Fin (cfgA ch).N) : (dats ch m ρ 0 c).after (4 : Fin 6) t = iblk ch m ρ c (4 : Fin 6) t := rfl
theorem after0_5 (c : Dev nD) (t : Fin (cfgA ch).N) : (dats ch m ρ 0 c).after (5 : Fin 6) t = (traj0 ch m ρ c t.val t.isLt) := rfl

theorem before0_0 (c : Dev nD) (t : Fin (cfgA ch).N) (d) : (dats ch m ρ 0 c).before (0 : Fin 6) t d = iblk ch m ρ c (0 : Fin 6) t :=
  ((dats ch m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA ch).N) (d) : (dats ch m ρ 0 c).before (1 : Fin 6) t d = iblk ch m ρ c (1 : Fin 6) t :=
  ((dats ch m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA ch).N) (d) : (dats ch m ρ 0 c).before (2 : Fin 6) t d = iblk ch m ρ c (2 : Fin 6) t :=
  ((dats ch m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA ch).N) (d) : (dats ch m ρ 0 c).before (3 : Fin 6) t d = iblk ch m ρ c (3 : Fin 6) t :=
  ((dats ch m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

theorem before0_4 (c : Dev nD) (t : Fin (cfgA ch).N) (d) : (dats ch m ρ 0 c).before (4 : Fin 6) t d = iblk ch m ρ c (4 : Fin 6) t :=
  ((dats ch m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem hcarry0_5 (c : Dev nD) : ∀ (t : Fin (cfgA ch).N) (ht : t.val ≠ 0), (cfgA ch).idle (5 : Fin 6) ((cfgA ch).grid.coords t) = true → (cfgA ch).fresh (5 : Fin 6) t.val = false →
    (dats ch m ρ 0 c).after (5 : Fin 6) t = (dats ch m ρ 0 c).after (5 : Fin 6) ⟨t.val - 1, by omega⟩ := by
  intro t ht hi hf
  rw [after0_5, after0_5, traj0_eq]
  by_cases q0 : P0_0 ch t
  · obtain ⟨i5, -, -⟩ := sched0_A ch t q0
    rw [i5] at hi; exact absurd hi (by decide)
  · obtain ⟨i5, -⟩ := sched0_B ch t q0
    rw [i5] at hi; exact absurd hi (by decide)

theorem before0_5 (c : Dev nD) (t : Fin (cfgA ch).N) (d) :
    (dats ch m ρ 0 c).before (5 : Fin 6) t d = if (cfgA ch).fresh (5 : Fin 6) t.val then d else (prev0 ch m ρ c t) := by
  rw [(dats ch m ρ 0 c).before_out_traj (5 : Fin 6) rfl (fun _ _ => rfl) (hcarry0_5 ch m ρ c) t.val t rfl d]
  by_cases hf : (cfgA ch).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

abbrev bodyAt0 (t : Fin (cfgA ch).N) : Prog (TpuEff nD τ sig (Elt Ideal) Λ₀ .tc) PUnit :=
  cc0_ffn_experts (crd ch t) (Memref.whole main_v2) (Memref.isWhole_whole _) (Memref.whole main_v6) (Memref.isWhole_whole _) (Memref.whole main_v9) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t)

set_option maxHeartbeats 4000000 in

theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 6) t d))
        ∗ (∃ d, owns (c : Thread nD τ) (ms0_1 ch t) fullShare ((dats ch m ρ 0 c).before (1 : Fin 6) t d))
        ∗ (∃ d, owns (c : Thread nD τ) (ms0_2 ch t) fullShare ((dats ch m ρ 0 c).before (2 : Fin 6) t d))
        ∗ (∃ d, owns (c : Thread nD τ) (ms0_3 ch t) fullShare ((dats ch m ρ 0 c).before (3 : Fin 6) t d))
        ∗ (∃ d, owns (c : Thread nD τ) (ms0_4 ch t) fullShare ((dats ch m ρ 0 c).before (4 : Fin 6) t d))
        ∗ (∃ d, owns (c : Thread nD τ) (ms0_5 ch t) fullShare ((dats ch m ρ 0 c).before (5 : Fin 6) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i5, f5, fr5⟩ := sched0_A ch t q0
    have F0 := hypsR0_A ch t q0
    have k0_h1 := F0.1; have F1 := F0.2
    have k0_h2 := F1.1; have F2 := F1.2
    clear F0 F1 F2
    rewrite [i5]
    simp only [before0_0, before0_1, before0_2, before0_3, before0_4, before0_5, after0_0, after0_1, after0_2, after0_3, after0_4, after0_5, f5]
    simp only [fr5, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨HT0, HT1, HT2, HA⟩, Ho, ⟨%d0, H0⟩, ⟨%d1, H1⟩, ⟨%d2, H2⟩, ⟨%d3, H3⟩, ⟨%d4, H4⟩, ⟨%d5, H5⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexists _; iexact H5
    iintro ⟨H0, H1, H2, H3, H4, HT0, HT1, HT2, ⟨%e5, H5⟩⟩
    isplitl [HT0 HT1 HT2 HA]
    · isplitl [HT0]
      · iexact HT0
      isplitl [HT1]
      · iexact HT1
      isplitl [HT2]
      · iexact HT2
      iexact HA
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_A_5 c _ _ _ _ _ _ _ _ _ _ _ _ _ _ _ _ _ _ _ _ _ _ _)
  · obtain ⟨i5, fr5⟩ := sched0_B ch t q0
    have F0 := hypsR0_B ch t q0
    have k0_h1 := F0.1; have F1 := F0.2
    have k0_h2 := F1.1; have F2 := F1.2
    clear F0 F1 F2
    rewrite [i5]
    simp only [before0_0, before0_1, before0_2, before0_3, before0_4, before0_5, after0_0, after0_1, after0_2, after0_3, after0_4, after0_5]
    simp only [fr5, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_B ch m ρ c t _ q0]
    unfold Phi; simp only [prev0T_castSucc, prev0T_succ, traj0_eq, step0_B ch m ρ c t _ q0, Fin.val_castSucc, Fin.val_succ]
    iintro ⟨⟨HT0, HT1, HT2, HA⟩, Ho, ⟨%d0, H0⟩, ⟨%d1, H1⟩, ⟨%d2, H2⟩, ⟨%d3, H3⟩, ⟨%d4, H4⟩, ⟨%d5, H5⟩⟩
    iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (pinT_2 ch) (iblk ch m ρ c (0 : Fin 6) t) (iblk ch m ρ c (1 : Fin 6) t) (iblk ch m ρ c (2 : Fin 6) t) (iblk ch m ρ c (3 : Fin 6) t) (iblk ch m ρ c (4 : Fin 6) t) _ k0_h1 k0_h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexact H5
    iintro ⟨H0, H1, H2, H3, H4, HT0, HT1, HT2, ⟨%e5, H5⟩⟩
    isplitl [HT0 HT1 HT2 HA]
    · isplitl [HT0]
      · iexact HT0
      isplitl [HT1]
      · iexact HT1
      isplitl [HT2]
      · iexact HT2
      iexact HA
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_B_5 c _ _ _ _ _ _ _ _ _ _ _ _ _ _ _ _ _ _ _ _ _ _ _ _)

theorem body_obligation (c : Dev nD) : BodyObligation (dats ch m ρ 0 c) (defs₀ (F := Ideal)) Variants.none () Set.univ := fun t => by
  rw [bigSep_W0]
  exact sound_body ch m ρ c t

theorem share_eq (c : Dev nD) (w : Fin (cfgA ch).W) : (dats ch m ρ 0 c).share w = fullShare := by unfold Dat.share; split <;> rfl

theorem prefHeld_eq (c : Dev nD) (q : Fin 3 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_v2) ↦{q 0} v 0) ∗ (((c : Thread nD τ).loc main_v6) ↦{q 1} v 1) ∗ (((c : Thread nD τ).loc main_v9) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The pipeline's invariant before the first point, from what the region hands over. -/
theorem phi0_intro (c : Dev nD) :
    iprop(Pipeline.ΦA (U := UR sig nD τ) spec0 c ∗ Pipeline.ΦT pre0 (adm ch).1 c) ⊢ (dats ch m ρ 0 c).Φ 0 := by
  rw [show Pipeline.ΦT pre0 (adm ch).1 c = Pipeline.prefHeld (Ix := Unit) (Name := ℕ) (U := UR sig nD τ) (Lvl := ℕ) pre0 c (fun _ => fullShare.right) (adm ch).1 from rfl,
    prefHeld_eq, show (dats ch m ρ 0 c).Φ 0 = Phi ch m ρ c 0 from rfl]
  unfold Phi
  iintro ⟨HA, ⟨HT0, HT1, HT2⟩⟩
  isplitl [HT0]
  · iexact HT0
  isplitl [HT1]
  · iexact HT1
  isplitl [HT2]
  · iexact HT2
  iexact HA

/-- And what it gives back after the last. -/
theorem phiN_exit (c : Dev nD) : (dats ch m ρ 0 c).Φ (Fin.last (cfgA ch).N) ⊢ Pipeline.ΦA (U := UR sig nD τ) spec0 c := by
  rw [show (dats ch m ρ 0 c).Φ (Fin.last (cfgA ch).N) = Phi ch m ρ c (Fin.last _) from rfl]
  unfold Phi
  iintro ⟨-, -, -, HA⟩
  iexact HA

/-- The tables at the call are the steps' row tiles, experts and first marks. -/
theorem V_pre (c : Dev nD) (j : Fin 3) : V m c (pre0.ref j) = (adm ch).1 j := by
  fin_cases j
  · exact V_v2 ch m c
  · exact V_v6 ch m c
  · exact V_v9 ch m c

/-- The call's run: every array ends as the pipeline's data say, every other buffer as the host operations left it, and
    every semaphore at zero. -/
theorem run_main : θ_run (defs (F := Ideal)) (onTc (τ := τ) (main (F := Ideal))) (s₀ m ρ)
    (fun r => Pipeline.FramePost (pcs ch) (dats ch m ρ) 0 (V m) r ∧ r.2.sem = fun _ => 0) :=
  Pipeline.θ_run_frameP_track pcfgs (fun _ => adm ch) (dats ch m ρ) 0 (launch0 (F := Ideal)) defs₀ Variants.none m ρ main
    (fun c => (body_obligation ch m ρ c).loose) (share_eq ch m ρ) (fun _ _ => rfl) (V m)
    (Pipeline.hmainP_prefix pcfgs 0 defs₀ Variants.none m main hostOps0 hostOps0_sub
      ⟨rfl, rfl, rfl, rfl, rfl, rfl, rfl, rfl, rfl, rfl, rfl, rfl, rfl, rfl, rfl⟩ main_chain)
    (fun _ _ => rfl) (V_pre ch m) (phi0_intro ch m ρ) (phiN_exit ch m ρ) _ (fun _ h => h)

theorem V_args (c : Dev nD) : V m c main_arg0 = m ((c.tc : Thread nD τ).loc main_arg0)
    ∧ V m c main_arg1 = m ((c.tc : Thread nD τ).loc main_arg1)
    ∧ V m c main_arg2 = m ((c.tc : Thread nD τ).loc main_arg2)
    ∧ V m c main_arg3 = m ((c.tc : Thread nD τ).loc main_arg3)
    ∧ V m c main_arg4 = m ((c.tc : Thread nD τ).loc main_arg4) := by
  refine ⟨?_, ?_, ?_, ?_, ?_⟩ <;> · unfold V; after_results

/-- From a state the run ends in, the argument arrays are unchanged. -/
theorem args_of_post {r : PUnit × MemSt nD τ sig (Elt Ideal)} (h : Pipeline.FramePost (pcs ch) (dats ch m ρ) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (show main_arg0 ∈ Pipeline.restRefs sig spec0 by decide)).trans (V_args m c).1,
    (((h c).1 (1 : Fin 6)).trans ((dats ch m ρ 0 c).arrAt_in (1 : Fin 6) rfl _)).trans (V_args m c).2.1,
    ((h c).2 main_arg2 (show main_arg2 ∈ Pipeline.restRefs sig spec0 by decide)).trans (V_args m c).2.2.1,
    ((h c).2 main_arg3 (show main_arg3 ∈ Pipeline.restRefs sig spec0 by decide)).trans (V_args m c).2.2.2.1,
    ((h c).2 main_arg4 (show main_arg4 ∈ Pipeline.restRefs sig spec0 by decide)).trans (V_args m c).2.2.2.2⟩

/-- The frame: the call ends, its argument arrays unchanged and every semaphore at zero. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of_post 0 m ρ h.1, h.2⟩) (run_main 0 m ρ)

end Cert.KernelIdeal.Experts

end
-- ==== Proof.Experts.Value.lean ====
/- The experts' call: what its windows read, what a row tile holds after each step, and the run. -/
module

public import proofs.«01_k».proof.Proof.Experts.Tile
public import proofs.«01_k».proof.Proof.Experts.Ideal.Frame
public import Idealize.ShloMosaic.Lib.Pipeline.ValueKit

@[expose] public section

set_option maxRecDepth 16384

noncomputable section

namespace Cert.Experts

open Idealize.ShloMosaic Idealize.ShloMosaic.TcCoe Idealize.SL.Sem Cert.KernelIdeal Cert.KernelIdeal.Gen Cert.KernelIdeal.Experts
open Idealize.ShloMosaic.Pipeline (Dat)

variable (m : (ℓ : Loc nD τ sig) → Buf (Elt Ideal) ℓ) (ρ : Dev nD → PrngReg) (c : Dev nD)

/-! ## The arguments -/

/-- The tokens. -/
abbrev tokens : FVec Ideal S10240x1024 .f32 := m ((c : Thread nD τ).loc main_arg0)
/-- The gates. -/
abbrev gating : FVec Ideal S10240x128 .f32 := m ((c : Thread nD τ).loc main_arg1)
/-- The experts' weights: the gate's, those beside it, and those back to the channels. -/
abbrev wGate : FVec Ideal S8x1024x3584 .f32 := m ((c : Thread nD τ).loc main_arg2)
abbrev wUp : FVec Ideal S8x1024x3584 .f32 := m ((c : Thread nD τ).loc main_arg3)
abbrev wDown : FVec Ideal S8x3584x1024 .f32 := m ((c : Thread nD τ).loc main_arg4)

/-! ## The arrays the windows read -/

theorem tokens_eq : (V m c main_v10 : Vec Ideal S10240x1024 .bf16) = tokens m c := by
  unfold V; after_results
  rfl

theorem wGate_eq : (V m c main_v11 : Vec Ideal S8x1024x3584 .bf16) = wGate m c := by
  unfold V; after_results
  rfl

theorem wUp_eq : (V m c main_v12 : Vec Ideal S8x1024x3584 .bf16) = wUp m c := by
  unfold V; after_results
  rfl

theorem wDown_eq : (V m c main_v13 : Vec Ideal S8x3584x1024 .bf16) = wDown m c := by
  unfold V; after_results
  rfl

/-! ## The windows' blocks at an index -/

theorem points (t : Fin (cfgA 0).N) : t.val < 560 := t.isLt

theorem index0 (t : Fin (cfgA 0).N) : ((cfgA 0).win (0 : Fin 6)).index t (0 : Fin 2) = t.val / 56
    ∧ ((cfgA 0).win (0 : Fin 6)).index t (1 : Fin 2) = 0 := by
  revert t
  decide +kernel

theorem index1 (t : Fin (cfgA 0).N) : ((cfgA 0).win (1 : Fin 6)).index t (0 : Fin 2) = t.val / 56
    ∧ ((cfgA 0).win (1 : Fin 6)).index t (1 : Fin 2) = 0 := by
  revert t
  decide +kernel

theorem index2 (t : Fin (cfgA 0).N) : ((cfgA 0).win (2 : Fin 6)).index t (0 : Fin 3) = t.val % 56 / 7 % 8
    ∧ ((cfgA 0).win (2 : Fin 6)).index t (1 : Fin 3) = 0 ∧ ((cfgA 0).win (2 : Fin 6)).index t (2 : Fin 3) = t.val % 56 % 7 := by
  revert t
  decide +kernel

theorem index3 (t : Fin (cfgA 0).N) : ((cfgA 0).win (3 : Fin 6)).index t (0 : Fin 3) = t.val % 56 / 7 % 8
    ∧ ((cfgA 0).win (3 : Fin 6)).index t (1 : Fin 3) = 0 ∧ ((cfgA 0).win (3 : Fin 6)).index t (2 : Fin 3) = t.val % 56 % 7 := by
  revert t
  decide +kernel

theorem index4 (t : Fin (cfgA 0).N) : ((cfgA 0).win (4 : Fin 6)).index t (0 : Fin 3) = t.val % 56 / 7 % 8
    ∧ ((cfgA 0).win (4 : Fin 6)).index t (1 : Fin 3) = t.val % 56 % 7 ∧ ((cfgA 0).win (4 : Fin 6)).index t (2 : Fin 3) = 0 := by
  revert t
  decide +kernel

theorem index5 (t : Fin (cfgA 0).N) : ((cfgA 0).win (5 : Fin 6)).index t (0 : Fin 2) = t.val / 56
    ∧ ((cfgA 0).win (5 : Fin 6)).index t (1 : Fin 2) = 0 := by
  revert t
  decide +kernel

theorem first_iff (t : Fin (cfgA 0).N) : P0_0 0 t ↔ t.val % 56 = 0 := by
  revert t
  decide +kernel

theorem flush_last (t : Fin (cfgA 0).N) : ((cfgA 0).win (5 : Fin 6)).flush t = true → t.val % 56 = 55 := by
  revert t
  decide +kernel

/-- The expert a point reads from the table. -/
theorem word_eq (t : Fin (cfgA 0).N) : View.readAt (Elt Ideal) tbM0_1.view (Rect.unit (s := S80) (k0_off1 (crd 0 t)) S1.size
    (k0_off1_inb (crd 0 t))).toLoadRect (pinT_1 0) (Shape.Idx.first (numel1_S1.symm ▸ Nat.one_pos)) = BitVec.ofNat 32 (t.val % 56 / 7 % 8) := by
  revert t
  decide +kernel

theorem covers : ((cfgA 0).win (5 : Fin 6)).Covers := by decide +kernel

/-- Token `r` of the tile of point `t`. -/
def at_ (t : Fin (cfgA 0).N) (r : Fin 1024) : Fin 10240 := ⟨1024 * (t.val / 56) + r.val, by have := points t; omega⟩

theorem block0 (t : Fin (cfgA 0).N) (r : Fin 1024) (k : Fin 1024) :
    (iblk 0 m ρ c (0 : Fin 6) t : Vec Ideal S1024x1024 .bf16) (ix2 r k) = tokens m c (ix2 (at_ t r) k) := by
  refine Eq.trans (congrArg (V m c main_v10 : Vec Ideal S10240x1024 .bf16) (funext fun a => Fin.ext ?_)) (congrFun (tokens_eq m c) _)
  have e := index0 t
  match a with
  | ⟨0, _⟩ => show ((cfgA 0).win (0 : Fin 6)).index t (0 : Fin 2) * 1024 + 1 * r.val = 1024 * (t.val / 56) + r.val; omega
  | ⟨1, _⟩ => show ((cfgA 0).win (0 : Fin 6)).index t (1 : Fin 2) * 1024 + 1 * k.val = k.val; omega

theorem block1 (t : Fin (cfgA 0).N) (r : Fin 1024) (l : Fin 128) :
    (iblk 0 m ρ c (1 : Fin 6) t : Vec Ideal S1024x128 .f32) (ix2 r l) = gating m c (ix2 (at_ t r) l) := by
  refine Eq.trans (congrArg (V m c main_arg1 : Vec Ideal S10240x128 .f32) (funext fun a => Fin.ext ?_)) (congrFun (V_args m c).2.1 _)
  have e := index1 t
  match a with
  | ⟨0, _⟩ => show ((cfgA 0).win (1 : Fin 6)).index t (0 : Fin 2) * 1024 + 1 * r.val = 1024 * (t.val / 56) + r.val; omega
  | ⟨1, _⟩ => show ((cfgA 0).win (1 : Fin 6)).index t (1 : Fin 2) * 128 + 1 * l.val = l.val; omega

/-- The expert and the part of point `t`. -/
def expertOf (t : ℕ) : Fin 8 := ⟨t % 56 / 7 % 8, Nat.mod_lt _ (by decide)⟩
def unitOf (t : ℕ) (f : Fin 512) : Fin 3584 := ⟨512 * (t % 56 % 7) + f.val, by omega⟩

theorem block2 (t : Fin (cfgA 0).N) (k : Fin 1024) (f : Fin 512) :
    (iblk 0 m ρ c (2 : Fin 6) t : Vec Ideal S1x1024x512 .bf16) (ix3 0 k f) = wGate m c (ix3 (expertOf t) k (unitOf t f)) := by
  refine Eq.trans (congrArg (V m c main_v11 : Vec Ideal S8x1024x3584 .bf16) (funext fun a => Fin.ext ?_)) (congrFun (wGate_eq m c) _)
  have e := index2 t
  match a with
  | ⟨0, _⟩ => show ((cfgA 0).win (2 : Fin 6)).index t (0 : Fin 3) * 1 + 1 * 0 = t.val % 56 / 7 % 8; omega
  | ⟨1, _⟩ => show ((cfgA 0).win (2 : Fin 6)).index t (1 : Fin 3) * 1024 + 1 * k.val = k.val; omega
  | ⟨2, _⟩ => show ((cfgA 0).win (2 : Fin 6)).index t (2 : Fin 3) * 512 + 1 * f.val = 512 * (t.val % 56 % 7) + f.val; omega

theorem block3 (t : Fin (cfgA 0).N) (k : Fin 1024) (f : Fin 512) :
    (iblk 0 m ρ c (3 : Fin 6) t : Vec Ideal S1x1024x512 .bf16) (ix3 0 k f) = wUp m c (ix3 (expertOf t) k (unitOf t f)) := by
  refine Eq.trans (congrArg (V m c main_v12 : Vec Ideal S8x1024x3584 .bf16) (funext fun a => Fin.ext ?_)) (congrFun (wUp_eq m c) _)
  have e := index3 t
  match a with
  | ⟨0, _⟩ => show ((cfgA 0).win (3 : Fin 6)).index t (0 : Fin 3) * 1 + 1 * 0 = t.val % 56 / 7 % 8; omega
  | ⟨1, _⟩ => show ((cfgA 0).win (3 : Fin 6)).index t (1 : Fin 3) * 1024 + 1 * k.val = k.val; omega
  | ⟨2, _⟩ => show ((cfgA 0).win (3 : Fin 6)).index t (2 : Fin 3) * 512 + 1 * f.val = 512 * (t.val % 56 % 7) + f.val; omega

theorem block4 (t : Fin (cfgA 0).N) (f : Fin 512) (k : Fin 1024) :
    (iblk 0 m ρ c (4 : Fin 6) t : Vec Ideal S1x512x1024 .bf16) (ix3 0 f k) = wDown m c (ix3 (expertOf t) (unitOf t f) k) := by
  refine Eq.trans (congrArg (V m c main_v13 : Vec Ideal S8x3584x1024 .bf16) (funext fun a => Fin.ext ?_)) (congrFun (wDown_eq m c) _)
  have e := index4 t
  match a with
  | ⟨0, _⟩ => show ((cfgA 0).win (4 : Fin 6)).index t (0 : Fin 3) * 1 + 1 * 0 = t.val % 56 / 7 % 8; omega
  | ⟨1, _⟩ => show ((cfgA 0).win (4 : Fin 6)).index t (1 : Fin 3) * 512 + 1 * f.val = 512 * (t.val % 56 % 7) + f.val; omega
  | ⟨2, _⟩ => show ((cfgA 0).win (4 : Fin 6)).index t (2 : Fin 3) * 1024 + 1 * k.val = k.val; omega

/-! ## What a row tile holds -/

/-- What point `t` adds. -/
def added (t : Fin (cfgA 0).N) : FVec Ideal S1024x1024 .f32 :=
  k0_pay2 (F := Ideal) (iblk 0 m ρ c (0 : Fin 6) t) (iblk 0 m ρ c (2 : Fin 6) t) (iblk 0 m ρ c (3 : Fin 6) t)
    (BitVec.ofNat 32 (t.val % 56 / 7 % 8)) (iblk 0 m ρ c (1 : Fin 6) t) (iblk 0 m ρ c (4 : Fin 6) t)

theorem added_apply (t : Fin (cfgA 0).N) (r j : Fin 1024) : added m ρ c t (ix2 r j)
    = partAt (tokens m c) (gating m c) (wGate m c) (wUp m c) (wDown m c) (at_ t r) j (t.val % 56) := by
  unfold added
  refine (step_apply _ _ _ _ _ _ (expertOf t) rfl r j).trans ?_
  simp only [block0, block1, block2, block3, block4]
  rfl

theorem first_step (t : Fin (cfgA 0).N) (prev) (h : P0_0 0 t) : step0 0 m ρ c t prev = added m ρ c t := by
  rw [step0_A 0 m ρ c t prev h]
  unfold added
  rw [← word_eq t]
  frame_out
  simp only [View.read_rep]

theorem later_step (t : Fin (cfgA 0).N) (prev) (h : ¬P0_0 0 t) : step0 0 m ρ c t prev = k0_pay1 (F := Ideal) (added m ρ c t) prev := by
  rw [step0_B 0 m ρ c t prev h]
  unfold added
  rw [← word_eq t]
  frame_out
  simp only [View.read_rep]

/-- What the tile of point `t` holds after it: the parts of its run so far. -/
theorem held_apply (t : Fin (cfgA 0).N) (i : S1024x1024.Idx) : traj0 0 m ρ c t.val t.isLt i
    = 0 + ∑ k ∈ Finset.range (t.val % 56 + 1), partAt (tokens m c) (gating m c) (wGate m c) (wUp m c) (wDown m c)
        ⟨(1024 * (t.val / 56) + (i 0).val) % 10240, Nat.mod_lt _ (by decide)⟩ ⟨(i 1).val, (i 1).isLt⟩ k := by
  have row : ∀ (u : Fin (cfgA 0).N) (r : Fin 1024), at_ u r = ⟨(1024 * (u.val / 56) + r.val) % 10240, Nat.mod_lt _ (by decide)⟩ :=
    fun u r => Fin.ext (by
      have := points u
      show 1024 * (u.val / 56) + r.val = (1024 * (u.val / 56) + r.val) % 10240
      omega)
  refine Pipeline.eq_sum_of_reset_step_apply_divmod (fun n h => traj0 0 m ρ c n h) 56 (fun _ => 0)
    (fun T k i => partAt (tokens m c) (gating m c) (wGate m c) (wUp m c) (wDown m c)
        ⟨(1024 * T + (i 0).val) % 10240, Nat.mod_lt _ (by decide)⟩ ⟨(i 1).val, (i 1).isLt⟩ k) ?_ ?_ t i
  · intro u hu i
    idx_vars i
    show traj0 0 m ρ c u.val u.isLt (ix2 i0 i1) = _
    rw [traj0_eq, first_step m ρ c u _ ((first_iff u).mpr hu), added_apply, row, zero_add]
  · intro u hu i
    idx_vars i
    have h0 : u.val ≠ 0 := fun h => hu (by rw [h])
    show traj0 0 m ρ c u.val u.isLt (ix2 i0 i1) = _
    rw [traj0_eq, later_step m ρ c u _ fun h => hu ((first_iff u).mp h), add_apply, added_apply, row]
    unfold prev0
    rw [dif_neg h0]

/-! ## The run -/

/-- The experts of the arguments on device `c`. -/
abbrev out : FVec Ideal S10240x1024 .f32 := result (tokens m c) (gating m c) (wGate m c) (wUp m c) (wDown m c)

theorem final_eq (hg : ∀ (t : Fin 10240) (e : Fin 8), 0 ≤ gating m c (ix2 t ⟨e.val, by omega⟩) ∧ gating m c (ix2 t ⟨e.val, by omega⟩) ≠ ⊤) :
    (dats 0 m ρ 0 c).arrAt (5 : Fin 6) (cfgA 0).N = out m c := by
  refine (dats 0 m ρ 0 c).arrAt_eq_of_covers (5 : Fin 6) _ covers fun t hf y => ?_
  blk_simp
  rw [after0_5]
  have e := index5 t
  have hl := flush_last t hf
  have ht := points t
  have y0 : (y (0 : Fin 2)).val < 1024 := (y (0 : Fin 2)).isLt
  have y1 : (y (1 : Fin 2)).val < 1024 := (y (1 : Fin 2)).isLt
  have ei : ((((cfgA 0).win (5 : Fin 6)).blk t).view.emb y : S10240x1024.Idx)
      = ix2 ⟨(1024 * (t.val / 56) + (y (0 : Fin 2)).val) % 10240, Nat.mod_lt _ (by decide)⟩ ⟨(y (1 : Fin 2)).val, y1⟩ := by
    funext a
    match a with
    | ⟨0, _⟩ => exact Fin.ext (by show ((cfgA 0).win (5 : Fin 6)).index t (0 : Fin 2) * 1024 + 1 * (y (0 : Fin 2)).val = (1024 * (t.val / 56) + (y (0 : Fin 2)).val) % 10240; omega)
    | ⟨1, _⟩ => exact Fin.ext (by show ((cfgA 0).win (5 : Fin 6)).index t (1 : Fin 2) * 1024 + 1 * (y (1 : Fin 2)).val = (y (1 : Fin 2)).val; omega)
  refine Eq.trans ?_ (congrArg (out m c) ei).symm
  refine Eq.trans ?_ (parts_eq _ _ _ _ _ _ _ (hg _))
  refine (held_apply m ρ c t y).trans ?_
  rw [hl, zero_add]

/-- The run: the result array at the experts, the arguments unchanged. -/
theorem run (hg : ∀ (c : Dev nD) (t : Fin 10240) (e : Fin 8), 0 ≤ gating m c (ix2 t ⟨e.val, by omega⟩) ∧ gating m c (ix2 t ⟨e.val, by omega⟩) ≠ ⊤) :
    θ_run defs (onTc (τ := τ) (main (F := Ideal))) ⟨m, fun _ => 0, ρ⟩ fun r => ∀ c : Dev nD,
      r.2.mem ((c.tc : Thread nD τ).loc main_v14) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 (5 : Fin 6)).trans (final_eq m ρ c (hg c)), args_of_post 0 m ρ h.1 c⟩) (run_main 0 m ρ)

end Cert.Experts

end
-- ==== Proof.Experts.Reference.lean ====
/- The reference's experts at an index: one expert after the other, added up from zeros. -/
module

public import proofs.«01_k».proof.Proof.Experts.Spec
public import proofs.«01_k».proof.Proof.Gen.ReferenceIdeal.Read

@[expose] public section

set_option maxRecDepth 16384

noncomputable section

namespace Cert.Experts.Reference

open Idealize.ShloMosaic Idealize.ShloMosaic.TcCoe Idealize.SL.Sem Cert.ReferenceIdeal Cert.ReferenceIdeal.Gen Cert.ReferenceIdeal.Read Cert.Experts

variable (x0 : FVec Ideal S10240x1024 .f32) (x1 : FVec Ideal S10240x128 .f32)
  (x2 x3 : FVec Ideal S8x1024x3584 .f32) (x4 : FVec Ideal S8x3584x1024 .f32)

/-- A hidden unit from its two projections, the sigmoid as the reference writes it. -/
theorem unit_of (h g u : Fin 1024 → EReal) :
    (∑ k, h k * g k) * Ideal.div (Ideal.ofBits .f32 0x3F800000#32) (Ideal.ofBits .f32 0x3F800000#32 + Ideal.exp (-∑ k, h k * g k)) * ∑ k, h k * u k
      = unit h g u := by
  rw [Ideal.ofBits_one_f32]
  rfl

/-! ## Expert 0 -/

theorem weight_gate_0 (k : Fin 1024) (f : Fin 3584) : val_main_v3 (F := Ideal) x2 (ix2 k f) = x2 (ix3 0 k f) := by
  have hk := k.isLt
  have hf := f.isLt
  rw [val_main_v3_apply, val_main_v2_apply]
  refine congrArg x2 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_up_0 (k : Fin 1024) (f : Fin 3584) : val_main_v5 (F := Ideal) x3 (ix2 k f) = x3 (ix3 0 k f) := by
  have hk := k.isLt
  have hf := f.isLt
  rw [val_main_v5_apply, val_main_v4_apply]
  refine congrArg x3 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_down_0 (k : Fin 3584) (f : Fin 1024) : val_main_v7 (F := Ideal) x4 (ix2 k f) = x4 (ix3 0 k f) := by
  have hk := k.isLt
  have hf := f.isLt
  rw [val_main_v7_apply, val_main_v6_apply]
  refine congrArg x4 (funext fun a => ?_)
  match a with
  | ⟨0, _⟩ => rfl
  | ⟨1, _⟩ => exact Fin.ext (by show (k.val * 1024 + f.val) / 1024 % 3584 = k.val; omega)
  | ⟨2, _⟩ => exact Fin.ext (by show (k.val * 1024 + f.val) % 1024 = f.val; omega)

theorem unit_0 (t : Fin 10240) (f : Fin 3584) : val_main_v11 (F := Ideal) x0 x2 x3 (ix2 t f)
    = unit (fun k => x0 (ix2 t k)) (fun k => x2 (ix3 0 k f)) (fun k => x3 (ix3 0 k f)) := by
  have el : ∀ k, lidx_main_v8 (ix2 t f) k = ix2 t k := fun k => by
    funext a; fin_cases a <;> rfl
  have er : ∀ k, ridx_main_v8 (ix2 t f) k = ix2 k f := fun k => by
    funext a; fin_cases a <;> rfl
  have el' : ∀ k, lidx_main_v10 (ix2 t f) k = ix2 t k := fun k => by
    funext a; fin_cases a <;> rfl
  have er' : ∀ k, ridx_main_v10 (ix2 t f) k = ix2 k f := fun k => by
    funext a; fin_cases a <;> rfl
  have eg : val_main_v8 (F := Ideal) x0 x2 (ix2 t f) = ∑ k, x0 (ix2 t k) * x2 (ix3 0 k f) := by
    rw [val_main_v8_apply]
    simp only [el, er, weight_gate_0]
  rw [val_main_v11_apply, val_main_v9_apply, val_main_call0_v5_apply, val_main_call0_v4_apply, val_main_call0_v3_apply, val_main_call0_v2_apply, val_main_call0_v1_apply, val_main_call0_v0_apply, eg, val_main_v10_apply]
  simp only [el', er', weight_up_0]
  exact unit_of (fun k => x0 (ix2 t k)) (fun k => x2 (ix3 0 k f)) (fun k => x3 (ix3 0 k f))

theorem gated_0 (t : Fin 10240) (j : Fin 1024) : val_main_v14 (F := Ideal) x0 x1 x2 x3 x4 (ix2 t j)
    = x1 (ix2 t 0) * ∑ f, term x0 x2 x3 x4 t j 0 f := by
  have el : ∀ k, lidx_main_v12 (ix2 t j) k = ix2 t k := fun k => by
    funext a; fin_cases a <;> rfl
  have er : ∀ k, ridx_main_v12 (ix2 t j) k = ix2 k j := fun k => by
    funext a; fin_cases a <;> rfl
  have eg : val_main_v13 (F := Ideal) x1 (ix2 t j) = x1 (ix2 t 0) := by
    rw [val_main_v13_apply, val_main_v1_apply]
    refine congrArg x1 (funext fun a => ?_)
    match a with
    | ⟨0, _⟩ => rfl
    | ⟨1, _⟩ => rfl
  rw [val_main_v14_apply, eg, val_main_v12_apply]
  simp only [el, er, unit_0, weight_down_0]
  rfl

/-! ## Expert 1 -/

theorem weight_gate_1 (k : Fin 1024) (f : Fin 3584) : val_main_v18 (F := Ideal) x2 (ix2 k f) = x2 (ix3 1 k f) := by
  have hk := k.isLt
  have hf := f.isLt
  rw [val_main_v18_apply, val_main_v17_apply]
  refine congrArg x2 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_up_1 (k : Fin 1024) (f : Fin 3584) : val_main_v20 (F := Ideal) x3 (ix2 k f) = x3 (ix3 1 k f) := by
  have hk := k.isLt
  have hf := f.isLt
  rw [val_main_v20_apply, val_main_v19_apply]
  refine congrArg x3 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_down_1 (k : Fin 3584) (f : Fin 1024) : val_main_v22 (F := Ideal) x4 (ix2 k f) = x4 (ix3 1 k f) := by
  have hk := k.isLt
  have hf := f.isLt
  rw [val_main_v22_apply, val_main_v21_apply]
  refine congrArg x4 (funext fun a => ?_)
  match a with
  | ⟨0, _⟩ => rfl
  | ⟨1, _⟩ => exact Fin.ext (by show (k.val * 1024 + f.val) / 1024 % 3584 = k.val; omega)
  | ⟨2, _⟩ => exact Fin.ext (by show (k.val * 1024 + f.val) % 1024 = f.val; omega)

theorem unit_1 (t : Fin 10240) (f : Fin 3584) : val_main_v26 (F := Ideal) x0 x2 x3 (ix2 t f)
    = unit (fun k => x0 (ix2 t k)) (fun k => x2 (ix3 1 k f)) (fun k => x3 (ix3 1 k f)) := by
  have el : ∀ k, lidx_main_v23 (ix2 t f) k = ix2 t k := fun k => by
    funext a; fin_cases a <;> rfl
  have er : ∀ k, ridx_main_v23 (ix2 t f) k = ix2 k f := fun k => by
    funext a; fin_cases a <;> rfl
  have el' : ∀ k, lidx_main_v25 (ix2 t f) k = ix2 t k := fun k => by
    funext a; fin_cases a <;> rfl
  have er' : ∀ k, ridx_main_v25 (ix2 t f) k = ix2 k f := fun k => by
    funext a; fin_cases a <;> rfl
  have eg : val_main_v23 (F := Ideal) x0 x2 (ix2 t f) = ∑ k, x0 (ix2 t k) * x2 (ix3 1 k f) := by
    rw [val_main_v23_apply]
    simp only [el, er, weight_gate_1]
  rw [val_main_v26_apply, val_main_v24_apply, val_main_call1_v5_apply, val_main_call1_v4_apply, val_main_call1_v3_apply, val_main_call1_v2_apply, val_main_call1_v1_apply, val_main_call1_v0_apply, eg, val_main_v25_apply]
  simp only [el', er', weight_up_1]
  exact unit_of (fun k => x0 (ix2 t k)) (fun k => x2 (ix3 1 k f)) (fun k => x3 (ix3 1 k f))

theorem gated_1 (t : Fin 10240) (j : Fin 1024) : val_main_v29 (F := Ideal) x0 x1 x2 x3 x4 (ix2 t j)
    = x1 (ix2 t 1) * ∑ f, term x0 x2 x3 x4 t j 1 f := by
  have el : ∀ k, lidx_main_v27 (ix2 t j) k = ix2 t k := fun k => by
    funext a; fin_cases a <;> rfl
  have er : ∀ k, ridx_main_v27 (ix2 t j) k = ix2 k j := fun k => by
    funext a; fin_cases a <;> rfl
  have eg : val_main_v28 (F := Ideal) x1 (ix2 t j) = x1 (ix2 t 1) := by
    rw [val_main_v28_apply, val_main_v16_apply]
    refine congrArg x1 (funext fun a => ?_)
    match a with
    | ⟨0, _⟩ => rfl
    | ⟨1, _⟩ => rfl
  rw [val_main_v29_apply, eg, val_main_v27_apply]
  simp only [el, er, unit_1, weight_down_1]
  rfl

/-! ## Expert 2 -/

theorem weight_gate_2 (k : Fin 1024) (f : Fin 3584) : val_main_v33 (F := Ideal) x2 (ix2 k f) = x2 (ix3 2 k f) := by
  have hk := k.isLt
  have hf := f.isLt
  rw [val_main_v33_apply, val_main_v32_apply]
  refine congrArg x2 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_up_2 (k : Fin 1024) (f : Fin 3584) : val_main_v35 (F := Ideal) x3 (ix2 k f) = x3 (ix3 2 k f) := by
  have hk := k.isLt
  have hf := f.isLt
  rw [val_main_v35_apply, val_main_v34_apply]
  refine congrArg x3 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_down_2 (k : Fin 3584) (f : Fin 1024) : val_main_v37 (F := Ideal) x4 (ix2 k f) = x4 (ix3 2 k f) := by
  have hk := k.isLt
  have hf := f.isLt
  rw [val_main_v37_apply, val_main_v36_apply]
  refine congrArg x4 (funext fun a => ?_)
  match a with
  | ⟨0, _⟩ => rfl
  | ⟨1, _⟩ => exact Fin.ext (by show (k.val * 1024 + f.val) / 1024 % 3584 = k.val; omega)
  | ⟨2, _⟩ => exact Fin.ext (by show (k.val * 1024 + f.val) % 1024 = f.val; omega)

theorem unit_2 (t : Fin 10240) (f : Fin 3584) : val_main_v41 (F := Ideal) x0 x2 x3 (ix2 t f)
    = unit (fun k => x0 (ix2 t k)) (fun k => x2 (ix3 2 k f)) (fun k => x3 (ix3 2 k f)) := by
  have el : ∀ k, lidx_main_v38 (ix2 t f) k = ix2 t k := fun k => by
    funext a; fin_cases a <;> rfl
  have er : ∀ k, ridx_main_v38 (ix2 t f) k = ix2 k f := fun k => by
    funext a; fin_cases a <;> rfl
  have el' : ∀ k, lidx_main_v40 (ix2 t f) k = ix2 t k := fun k => by
    funext a; fin_cases a <;> rfl
  have er' : ∀ k, ridx_main_v40 (ix2 t f) k = ix2 k f := fun k => by
    funext a; fin_cases a <;> rfl
  have eg : val_main_v38 (F := Ideal) x0 x2 (ix2 t f) = ∑ k, x0 (ix2 t k) * x2 (ix3 2 k f) := by
    rw [val_main_v38_apply]
    simp only [el, er, weight_gate_2]
  rw [val_main_v41_apply, val_main_v39_apply, val_main_call2_v5_apply, val_main_call2_v4_apply, val_main_call2_v3_apply, val_main_call2_v2_apply, val_main_call2_v1_apply, val_main_call2_v0_apply, eg, val_main_v40_apply]
  simp only [el', er', weight_up_2]
  exact unit_of (fun k => x0 (ix2 t k)) (fun k => x2 (ix3 2 k f)) (fun k => x3 (ix3 2 k f))

theorem gated_2 (t : Fin 10240) (j : Fin 1024) : val_main_v44 (F := Ideal) x0 x1 x2 x3 x4 (ix2 t j)
    = x1 (ix2 t 2) * ∑ f, term x0 x2 x3 x4 t j 2 f := by
  have el : ∀ k, lidx_main_v42 (ix2 t j) k = ix2 t k := fun k => by
    funext a; fin_cases a <;> rfl
  have er : ∀ k, ridx_main_v42 (ix2 t j) k = ix2 k j := fun k => by
    funext a; fin_cases a <;> rfl
  have eg : val_main_v43 (F := Ideal) x1 (ix2 t j) = x1 (ix2 t 2) := by
    rw [val_main_v43_apply, val_main_v31_apply]
    refine congrArg x1 (funext fun a => ?_)
    match a with
    | ⟨0, _⟩ => rfl
    | ⟨1, _⟩ => rfl
  rw [val_main_v44_apply, eg, val_main_v42_apply]
  simp only [el, er, unit_2, weight_down_2]
  rfl

/-! ## Expert 3 -/

theorem weight_gate_3 (k : Fin 1024) (f : Fin 3584) : val_main_v48 (F := Ideal) x2 (ix2 k f) = x2 (ix3 3 k f) := by
  have hk := k.isLt
  have hf := f.isLt
  rw [val_main_v48_apply, val_main_v47_apply]
  refine congrArg x2 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_up_3 (k : Fin 1024) (f : Fin 3584) : val_main_v50 (F := Ideal) x3 (ix2 k f) = x3 (ix3 3 k f) := by
  have hk := k.isLt
  have hf := f.isLt
  rw [val_main_v50_apply, val_main_v49_apply]
  refine congrArg x3 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_down_3 (k : Fin 3584) (f : Fin 1024) : val_main_v52 (F := Ideal) x4 (ix2 k f) = x4 (ix3 3 k f) := by
  have hk := k.isLt
  have hf := f.isLt
  rw [val_main_v52_apply, val_main_v51_apply]
  refine congrArg x4 (funext fun a => ?_)
  match a with
  | ⟨0, _⟩ => rfl
  | ⟨1, _⟩ => exact Fin.ext (by show (k.val * 1024 + f.val) / 1024 % 3584 = k.val; omega)
  | ⟨2, _⟩ => exact Fin.ext (by show (k.val * 1024 + f.val) % 1024 = f.val; omega)

theorem unit_3 (t : Fin 10240) (f : Fin 3584) : val_main_v56 (F := Ideal) x0 x2 x3 (ix2 t f)
    = unit (fun k => x0 (ix2 t k)) (fun k => x2 (ix3 3 k f)) (fun k => x3 (ix3 3 k f)) := by
  have el : ∀ k, lidx_main_v53 (ix2 t f) k = ix2 t k := fun k => by
    funext a; fin_cases a <;> rfl
  have er : ∀ k, ridx_main_v53 (ix2 t f) k = ix2 k f := fun k => by
    funext a; fin_cases a <;> rfl
  have el' : ∀ k, lidx_main_v55 (ix2 t f) k = ix2 t k := fun k => by
    funext a; fin_cases a <;> rfl
  have er' : ∀ k, ridx_main_v55 (ix2 t f) k = ix2 k f := fun k => by
    funext a; fin_cases a <;> rfl
  have eg : val_main_v53 (F := Ideal) x0 x2 (ix2 t f) = ∑ k, x0 (ix2 t k) * x2 (ix3 3 k f) := by
    rw [val_main_v53_apply]
    simp only [el, er, weight_gate_3]
  rw [val_main_v56_apply, val_main_v54_apply, val_main_call3_v5_apply, val_main_call3_v4_apply, val_main_call3_v3_apply, val_main_call3_v2_apply, val_main_call3_v1_apply, val_main_call3_v0_apply, eg, val_main_v55_apply]
  simp only [el', er', weight_up_3]
  exact unit_of (fun k => x0 (ix2 t k)) (fun k => x2 (ix3 3 k f)) (fun k => x3 (ix3 3 k f))

theorem gated_3 (t : Fin 10240) (j : Fin 1024) : val_main_v59 (F := Ideal) x0 x1 x2 x3 x4 (ix2 t j)
    = x1 (ix2 t 3) * ∑ f, term x0 x2 x3 x4 t j 3 f := by
  have el : ∀ k, lidx_main_v57 (ix2 t j) k = ix2 t k := fun k => by
    funext a; fin_cases a <;> rfl
  have er : ∀ k, ridx_main_v57 (ix2 t j) k = ix2 k j := fun k => by
    funext a; fin_cases a <;> rfl
  have eg : val_main_v58 (F := Ideal) x1 (ix2 t j) = x1 (ix2 t 3) := by
    rw [val_main_v58_apply, val_main_v46_apply]
    refine congrArg x1 (funext fun a => ?_)
    match a with
    | ⟨0, _⟩ => rfl
    | ⟨1, _⟩ => rfl
  rw [val_main_v59_apply, eg, val_main_v57_apply]
  simp only [el, er, unit_3, weight_down_3]
  rfl

/-! ## Expert 4 -/

theorem weight_gate_4 (k : Fin 1024) (f : Fin 3584) : val_main_v63 (F := Ideal) x2 (ix2 k f) = x2 (ix3 4 k f) := by
  have hk := k.isLt
  have hf := f.isLt
  rw [val_main_v63_apply, val_main_v62_apply]
  refine congrArg x2 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_up_4 (k : Fin 1024) (f : Fin 3584) : val_main_v65 (F := Ideal) x3 (ix2 k f) = x3 (ix3 4 k f) := by
  have hk := k.isLt
  have hf := f.isLt
  rw [val_main_v65_apply, val_main_v64_apply]
  refine congrArg x3 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_down_4 (k : Fin 3584) (f : Fin 1024) : val_main_v67 (F := Ideal) x4 (ix2 k f) = x4 (ix3 4 k f) := by
  have hk := k.isLt
  have hf := f.isLt
  rw [val_main_v67_apply, val_main_v66_apply]
  refine congrArg x4 (funext fun a => ?_)
  match a with
  | ⟨0, _⟩ => rfl
  | ⟨1, _⟩ => exact Fin.ext (by show (k.val * 1024 + f.val) / 1024 % 3584 = k.val; omega)
  | ⟨2, _⟩ => exact Fin.ext (by show (k.val * 1024 + f.val) % 1024 = f.val; omega)

theorem unit_4 (t : Fin 10240) (f : Fin 3584) : val_main_v71 (F := Ideal) x0 x2 x3 (ix2 t f)
    = unit (fun k => x0 (ix2 t k)) (fun k => x2 (ix3 4 k f)) (fun k => x3 (ix3 4 k f)) := by
  have el : ∀ k, lidx_main_v68 (ix2 t f) k = ix2 t k := fun k => by
    funext a; fin_cases a <;> rfl
  have er : ∀ k, ridx_main_v68 (ix2 t f) k = ix2 k f := fun k => by
    funext a; fin_cases a <;> rfl
  have el' : ∀ k, lidx_main_v70 (ix2 t f) k = ix2 t k := fun k => by
    funext a; fin_cases a <;> rfl
  have er' : ∀ k, ridx_main_v70 (ix2 t f) k = ix2 k f := fun k => by
    funext a; fin_cases a <;> rfl
  have eg : val_main_v68 (F := Ideal) x0 x2 (ix2 t f) = ∑ k, x0 (ix2 t k) * x2 (ix3 4 k f) := by
    rw [val_main_v68_apply]
    simp only [el, er, weight_gate_4]
  rw [val_main_v71_apply, val_main_v69_apply, val_main_call4_v5_apply, val_main_call4_v4_apply, val_main_call4_v3_apply, val_main_call4_v2_apply, val_main_call4_v1_apply, val_main_call4_v0_apply, eg, val_main_v70_apply]
  simp only [el', er', weight_up_4]
  exact unit_of (fun k => x0 (ix2 t k)) (fun k => x2 (ix3 4 k f)) (fun k => x3 (ix3 4 k f))

theorem gated_4 (t : Fin 10240) (j : Fin 1024) : val_main_v74 (F := Ideal) x0 x1 x2 x3 x4 (ix2 t j)
    = x1 (ix2 t 4) * ∑ f, term x0 x2 x3 x4 t j 4 f := by
  have el : ∀ k, lidx_main_v72 (ix2 t j) k = ix2 t k := fun k => by
    funext a; fin_cases a <;> rfl
  have er : ∀ k, ridx_main_v72 (ix2 t j) k = ix2 k j := fun k => by
    funext a; fin_cases a <;> rfl
  have eg : val_main_v73 (F := Ideal) x1 (ix2 t j) = x1 (ix2 t 4) := by
    rw [val_main_v73_apply, val_main_v61_apply]
    refine congrArg x1 (funext fun a => ?_)
    match a with
    | ⟨0, _⟩ => rfl
    | ⟨1, _⟩ => rfl
  rw [val_main_v74_apply, eg, val_main_v72_apply]
  simp only [el, er, unit_4, weight_down_4]
  rfl

/-! ## Expert 5 -/

theorem weight_gate_5 (k : Fin 1024) (f : Fin 3584) : val_main_v78 (F := Ideal) x2 (ix2 k f) = x2 (ix3 5 k f) := by
  have hk := k.isLt
  have hf := f.isLt
  rw [val_main_v78_apply, val_main_v77_apply]
  refine congrArg x2 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_up_5 (k : Fin 1024) (f : Fin 3584) : val_main_v80 (F := Ideal) x3 (ix2 k f) = x3 (ix3 5 k f) := by
  have hk := k.isLt
  have hf := f.isLt
  rw [val_main_v80_apply, val_main_v79_apply]
  refine congrArg x3 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_down_5 (k : Fin 3584) (f : Fin 1024) : val_main_v82 (F := Ideal) x4 (ix2 k f) = x4 (ix3 5 k f) := by
  have hk := k.isLt
  have hf := f.isLt
  rw [val_main_v82_apply, val_main_v81_apply]
  refine congrArg x4 (funext fun a => ?_)
  match a with
  | ⟨0, _⟩ => rfl
  | ⟨1, _⟩ => exact Fin.ext (by show (k.val * 1024 + f.val) / 1024 % 3584 = k.val; omega)
  | ⟨2, _⟩ => exact Fin.ext (by show (k.val * 1024 + f.val) % 1024 = f.val; omega)

theorem unit_5 (t : Fin 10240) (f : Fin 3584) : val_main_v86 (F := Ideal) x0 x2 x3 (ix2 t f)
    = unit (fun k => x0 (ix2 t k)) (fun k => x2 (ix3 5 k f)) (fun k => x3 (ix3 5 k f)) := by
  have el : ∀ k, lidx_main_v83 (ix2 t f) k = ix2 t k := fun k => by
    funext a; fin_cases a <;> rfl
  have er : ∀ k, ridx_main_v83 (ix2 t f) k = ix2 k f := fun k => by
    funext a; fin_cases a <;> rfl
  have el' : ∀ k, lidx_main_v85 (ix2 t f) k = ix2 t k := fun k => by
    funext a; fin_cases a <;> rfl
  have er' : ∀ k, ridx_main_v85 (ix2 t f) k = ix2 k f := fun k => by
    funext a; fin_cases a <;> rfl
  have eg : val_main_v83 (F := Ideal) x0 x2 (ix2 t f) = ∑ k, x0 (ix2 t k) * x2 (ix3 5 k f) := by
    rw [val_main_v83_apply]
    simp only [el, er, weight_gate_5]
  rw [val_main_v86_apply, val_main_v84_apply, val_main_call5_v5_apply, val_main_call5_v4_apply, val_main_call5_v3_apply, val_main_call5_v2_apply, val_main_call5_v1_apply, val_main_call5_v0_apply, eg, val_main_v85_apply]
  simp only [el', er', weight_up_5]
  exact unit_of (fun k => x0 (ix2 t k)) (fun k => x2 (ix3 5 k f)) (fun k => x3 (ix3 5 k f))

theorem gated_5 (t : Fin 10240) (j : Fin 1024) : val_main_v89 (F := Ideal) x0 x1 x2 x3 x4 (ix2 t j)
    = x1 (ix2 t 5) * ∑ f, term x0 x2 x3 x4 t j 5 f := by
  have el : ∀ k, lidx_main_v87 (ix2 t j) k = ix2 t k := fun k => by
    funext a; fin_cases a <;> rfl
  have er : ∀ k, ridx_main_v87 (ix2 t j) k = ix2 k j := fun k => by
    funext a; fin_cases a <;> rfl
  have eg : val_main_v88 (F := Ideal) x1 (ix2 t j) = x1 (ix2 t 5) := by
    rw [val_main_v88_apply, val_main_v76_apply]
    refine congrArg x1 (funext fun a => ?_)
    match a with
    | ⟨0, _⟩ => rfl
    | ⟨1, _⟩ => rfl
  rw [val_main_v89_apply, eg, val_main_v87_apply]
  simp only [el, er, unit_5, weight_down_5]
  rfl

/-! ## Expert 6 -/

theorem weight_gate_6 (k : Fin 1024) (f : Fin 3584) : val_main_v93 (F := Ideal) x2 (ix2 k f) = x2 (ix3 6 k f) := by
  have hk := k.isLt
  have hf := f.isLt
  rw [val_main_v93_apply, val_main_v92_apply]
  refine congrArg x2 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_up_6 (k : Fin 1024) (f : Fin 3584) : val_main_v95 (F := Ideal) x3 (ix2 k f) = x3 (ix3 6 k f) := by
  have hk := k.isLt
  have hf := f.isLt
  rw [val_main_v95_apply, val_main_v94_apply]
  refine congrArg x3 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_down_6 (k : Fin 3584) (f : Fin 1024) : val_main_v97 (F := Ideal) x4 (ix2 k f) = x4 (ix3 6 k f) := by
  have hk := k.isLt
  have hf := f.isLt
  rw [val_main_v97_apply, val_main_v96_apply]
  refine congrArg x4 (funext fun a => ?_)
  match a with
  | ⟨0, _⟩ => rfl
  | ⟨1, _⟩ => exact Fin.ext (by show (k.val * 1024 + f.val) / 1024 % 3584 = k.val; omega)
  | ⟨2, _⟩ => exact Fin.ext (by show (k.val * 1024 + f.val) % 1024 = f.val; omega)

theorem unit_6 (t : Fin 10240) (f : Fin 3584) : val_main_v101 (F := Ideal) x0 x2 x3 (ix2 t f)
    = unit (fun k => x0 (ix2 t k)) (fun k => x2 (ix3 6 k f)) (fun k => x3 (ix3 6 k f)) := by
  have el : ∀ k, lidx_main_v98 (ix2 t f) k = ix2 t k := fun k => by
    funext a; fin_cases a <;> rfl
  have er : ∀ k, ridx_main_v98 (ix2 t f) k = ix2 k f := fun k => by
    funext a; fin_cases a <;> rfl
  have el' : ∀ k, lidx_main_v100 (ix2 t f) k = ix2 t k := fun k => by
    funext a; fin_cases a <;> rfl
  have er' : ∀ k, ridx_main_v100 (ix2 t f) k = ix2 k f := fun k => by
    funext a; fin_cases a <;> rfl
  have eg : val_main_v98 (F := Ideal) x0 x2 (ix2 t f) = ∑ k, x0 (ix2 t k) * x2 (ix3 6 k f) := by
    rw [val_main_v98_apply]
    simp only [el, er, weight_gate_6]
  rw [val_main_v101_apply, val_main_v99_apply, val_main_call6_v5_apply, val_main_call6_v4_apply, val_main_call6_v3_apply, val_main_call6_v2_apply, val_main_call6_v1_apply, val_main_call6_v0_apply, eg, val_main_v100_apply]
  simp only [el', er', weight_up_6]
  exact unit_of (fun k => x0 (ix2 t k)) (fun k => x2 (ix3 6 k f)) (fun k => x3 (ix3 6 k f))

theorem gated_6 (t : Fin 10240) (j : Fin 1024) : val_main_v104 (F := Ideal) x0 x1 x2 x3 x4 (ix2 t j)
    = x1 (ix2 t 6) * ∑ f, term x0 x2 x3 x4 t j 6 f := by
  have el : ∀ k, lidx_main_v102 (ix2 t j) k = ix2 t k := fun k => by
    funext a; fin_cases a <;> rfl
  have er : ∀ k, ridx_main_v102 (ix2 t j) k = ix2 k j := fun k => by
    funext a; fin_cases a <;> rfl
  have eg : val_main_v103 (F := Ideal) x1 (ix2 t j) = x1 (ix2 t 6) := by
    rw [val_main_v103_apply, val_main_v91_apply]
    refine congrArg x1 (funext fun a => ?_)
    match a with
    | ⟨0, _⟩ => rfl
    | ⟨1, _⟩ => rfl
  rw [val_main_v104_apply, eg, val_main_v102_apply]
  simp only [el, er, unit_6, weight_down_6]
  rfl

/-! ## Expert 7 -/

theorem weight_gate_7 (k : Fin 1024) (f : Fin 3584) : val_main_v108 (F := Ideal) x2 (ix2 k f) = x2 (ix3 7 k f) := by
  have hk := k.isLt
  have hf := f.isLt
  rw [val_main_v108_apply, val_main_v107_apply]
  refine congrArg x2 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_up_7 (k : Fin 1024) (f : Fin 3584) : val_main_v110 (F := Ideal) x3 (ix2 k f) = x3 (ix3 7 k f) := by
  have hk := k.isLt
  have hf := f.isLt
  rw [val_main_v110_apply, val_main_v109_apply]
  refine congrArg x3 (funext fun a => ?_)
  match a with
  | ⟨0, _⟩ => rfl
  | ⟨1, _⟩ => exact Fin.ext (by show (k.val * 3584 + f.val) / 3584 % 1024 = k.val; omega)
  | ⟨2, _⟩ => exact Fin.ext (by show (k.val * 3584 + f.val) % 3584 = f.val; omega)

theorem weight_down_7 (k : Fin 3584) (f : Fin 1024) : val_main_v112 (F := Ideal) x4 (ix2 k f) = x4 (ix3 7 k f) := by
  have hk := k.isLt
  have hf := f.isLt
  rw [val_main_v112_apply, val_main_v111_apply]
  refine congrArg x4 (funext fun a => ?_)
  match a with
  | ⟨0, _⟩ => rfl
  | ⟨1, _⟩ => exact Fin.ext (by show (k.val * 1024 + f.val) / 1024 % 3584 = k.val; omega)
  | ⟨2, _⟩ => exact Fin.ext (by show (k.val * 1024 + f.val) % 1024 = f.val; omega)

theorem unit_7 (t : Fin 10240) (f : Fin 3584) : val_main_v116 (F := Ideal) x0 x2 x3 (ix2 t f)
    = unit (fun k => x0 (ix2 t k)) (fun k => x2 (ix3 7 k f)) (fun k => x3 (ix3 7 k f)) := by
  have el : ∀ k, lidx_main_v113 (ix2 t f) k = ix2 t k := fun k => by
    funext a; fin_cases a <;> rfl
  have er : ∀ k, ridx_main_v113 (ix2 t f) k = ix2 k f := fun k => by
    funext a; fin_cases a <;> rfl
  have el' : ∀ k, lidx_main_v115 (ix2 t f) k = ix2 t k := fun k => by
    funext a; fin_cases a <;> rfl
  have er' : ∀ k, ridx_main_v115 (ix2 t f) k = ix2 k f := fun k => by
    funext a; fin_cases a <;> rfl
  have eg : val_main_v113 (F := Ideal) x0 x2 (ix2 t f) = ∑ k, x0 (ix2 t k) * x2 (ix3 7 k f) := by
    rw [val_main_v113_apply]
    simp only [el, er, weight_gate_7]
  rw [val_main_v116_apply, val_main_v114_apply, val_main_call7_v5_apply, val_main_call7_v4_apply, val_main_call7_v3_apply, val_main_call7_v2_apply, val_main_call7_v1_apply, val_main_call7_v0_apply, eg, val_main_v115_apply]
  simp only [el', er', weight_up_7]
  exact unit_of (fun k => x0 (ix2 t k)) (fun k => x2 (ix3 7 k f)) (fun k => x3 (ix3 7 k f))

theorem gated_7 (t : Fin 10240) (j : Fin 1024) : val_main_v119 (F := Ideal) x0 x1 x2 x3 x4 (ix2 t j)
    = x1 (ix2 t 7) * ∑ f, term x0 x2 x3 x4 t j 7 f := by
  have el : ∀ k, lidx_main_v117 (ix2 t j) k = ix2 t k := fun k => by
    funext a; fin_cases a <;> rfl
  have er : ∀ k, ridx_main_v117 (ix2 t j) k = ix2 k j := fun k => by
    funext a; fin_cases a <;> rfl
  have eg : val_main_v118 (F := Ideal) x1 (ix2 t j) = x1 (ix2 t 7) := by
    rw [val_main_v118_apply, val_main_v106_apply]
    refine congrArg x1 (funext fun a => ?_)
    match a with
    | ⟨0, _⟩ => rfl
    | ⟨1, _⟩ => rfl
  rw [val_main_v119_apply, eg, val_main_v117_apply]
  simp only [el, er, unit_7, weight_down_7]
  rfl

/-! ## All eight -/

/-- The reference's result is the experts. -/
theorem result_eq : val_main_v120 (F := Ideal) x0 x1 x2 x3 x4 = result x0 x1 x2 x3 x4 := by
  funext i
  obtain ⟨t, j, rfl⟩ : ∃ (t : Fin 10240) (j : Fin 1024), i = ix2 t j := ⟨i 0, i 1, eq_ix2 i⟩
  have ez : val_main_v0 (F := Ideal) (ix2 t j) = 0 := by
    rw [val_main_v0_apply]
    exact Ideal.ofBits_zero_f32
  rw [val_main_v120_apply, gated_7, val_main_v105_apply, gated_6, val_main_v90_apply, gated_5, val_main_v75_apply, gated_4, val_main_v60_apply, gated_3, val_main_v45_apply, gated_2, val_main_v30_apply, gated_1, val_main_v15_apply, gated_0, ez, result_apply, Fin.sum_univ_eight]
  show ((((((((0 : EReal) + _) + _) + _) + _) + _) + _) + _) + _ = _
  rw [zero_add]
  rfl

end Cert.Experts.Reference

end
-- ==== Proof.Experts.Claims.lean ====
/- The claims about the experts of the second layer. -/
module

public import proofs.«01_k».proof.Defs
public import proofs.«01_k».proof.Proof.Experts.Bits.Frame
public import proofs.«01_k».proof.Proof.Experts.Value
public import proofs.«01_k».proof.Proof.Experts.Reference
public import proofs.«01_k».proof.Proof.Gen.ReferenceIdeal.Run
public import proofs.«01_k».proof.Proof.Gen.Pre_finite_nonnegative_gates

@[expose] public section

noncomputable section

namespace Cert.Experts.Claims

open Idealize.ShloMosaic Idealize.ShloMosaic.TcCoe Idealize.SL.Sem

theorem frame : Cert.quiescent_Kernel := fun m ρ _ => Cert.Kernel.Experts.frame m ρ

theorem frame_ideal : Cert.quiescent_KernelIdeal := fun m ρ _ => Cert.KernelIdeal.Experts.frame m ρ

/-- The reference declares no semaphore, so its counters are zero at the end. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, the gates being finite and not negative. -/
theorem algebraic : Cert.algebraic_KernelIdeal_ReferenceIdeal_pre_finite_nonnegative_gates := fun m ρ m' ρ' hpre hag =>
  ⟨fun c => out m c, run m ρ (fun c t e => gates_ok _ _ _ _ _ (hpre c) t e),
    (θ_run Cert.ReferenceIdeal.defs _ _).mono (fun _ h c => ⟨(h c).1.trans ((Cert.ReferenceIdeal.Read.val_main_v120_eq _).trans
      ((Reference.result_eq _ _ _ _ _).trans (by
        show result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
          = out m c
        rw [(hag c).1, (hag c).2.1, (hag c).2.2.1, (hag c).2.2.2.1, (hag c).2.2.2.2]))), (h c).2⟩)
      (Cert.ReferenceIdeal.Value.run (F := Ideal) m' ρ')⟩

end Cert.Experts.Claims

end
-- ==== Proof.Layer.lean ====
/- The pieces that several of the layer's calls share, on the extended reals: the norm of a row, the modulation's row of a
   token, the gate of the feed-forward part, and a sum taken 256 terms at a time. -/
module

public import Idealize.ShloMosaic.Lib.Pointwise
public import Idealize.ShloMosaic.Lib.ValueIdx

@[expose] public section

set_option maxRecDepth 16384

noncomputable section

namespace Cert.Layer

open Idealize.ShloMosaic

/-- The number added to a mean square. -/
abbrev eps : EReal := Ideal.ofBits .f32 0x358637BD#32

/-- Entry `k` of the row `f` over the root of its mean square, `w` the row's length, times the gain. -/
def normed {n : ℕ} (w : EReal) (f g : Fin n → EReal) (k : Fin n) : EReal :=
  f k * Ideal.rsqrt (Ideal.div (∑ j, f j * f j) w + eps) * g k

/-- 1024 and 64 as the programs write them. -/
abbrev width : EReal := Ideal.ofBits .f32 0x44800000#32
abbrev headWidth : EReal := Ideal.ofBits .f32 0x42800000#32

/-- The row of the modulation that token `t` takes: 0 for a context token, then one per request. -/
def modRow (t : Fin 10240) : Fin 3 := if t.val < 8192 then 0 else ⟨1 + (t.val - 8192) / 1024, by omega⟩

/-- The same for all 512 tokens of tile `n`. -/
def tileRow (n : ℕ) : Fin 3 := if n < 16 then 0 else if n < 18 then 1 else 2

theorem modRow_tile (n : ℕ) (r : Fin 512) (h : 512 * n + r.val < 10240) : modRow ⟨512 * n + r.val, h⟩ = tileRow n := by
  have hr := r.isLt
  unfold modRow tileRow
  by_cases h1 : n < 16
  · rw [if_pos h1, if_pos (by show 512 * n + r.val < 8192; omega)]
  · rw [if_neg h1, if_neg (by show ¬ 512 * n + r.val < 8192; omega)]
    by_cases h2 : n < 18
    · rw [if_pos h2]
      exact Fin.ext (by show 1 + (512 * n + r.val - 8192) / 1024 = 1; omega)
    · rw [if_neg h2]
      exact Fin.ext (by show 1 + (512 * n + r.val - 8192) / 1024 = 2; omega)

/-- The two token streams, one after the other. -/
def joined {w : ℕ} (a : (⟨2, ![8192, w]⟩ : Shape).Idx → EReal) (b : (⟨2, ![2048, w]⟩ : Shape).Idx → EReal) (t : Fin 10240) (k : Fin w) : EReal :=
  if h : t.val < 8192 then a (ix2 ⟨t.val, h⟩ k) else b (ix2 ⟨t.val - 8192, by omega⟩ k)

theorem joined_apply {w : ℕ} (a : (⟨2, ![8192, w]⟩ : Shape).Idx → EReal) (b : (⟨2, ![2048, w]⟩ : Shape).Idx → EReal) (h) (t : Fin 10240) (k : Fin w) :
    concatenate ⟨2, ![10240, w]⟩ 0 [⟨⟨2, ![8192, w]⟩, a⟩, ⟨⟨2, ![2048, w]⟩, b⟩] h (ix2 t k) = joined a b t k := by
  have ht := t.isLt
  unfold joined
  by_cases hc : t.val < 8192
  · rw [dif_pos hc]
    exact concatenate_pair_apply_left (t := ⟨2, ![10240, w]⟩) (s₁ := ⟨2, ![8192, w]⟩) (s₂ := ⟨2, ![2048, w]⟩) 0 _ _ _ _ rfl (ix2 ⟨t.val, hc⟩ k)
      (fun a => by match a with | ⟨0, _⟩ => rfl | ⟨1, _⟩ => rfl)
  · rw [dif_neg hc]
    exact concatenate_pair_apply_right (t := ⟨2, ![10240, w]⟩) (s₁ := ⟨2, ![8192, w]⟩) (s₂ := ⟨2, ![2048, w]⟩) 0 _ _ _ _ rfl rfl
      (ix2 ⟨t.val - 8192, by omega⟩ k) (fun a ha => by match a with | ⟨0, _⟩ => exact absurd rfl ha | ⟨1, _⟩ => rfl)
      (by show t.val - 8192 + 8192 = t.val; omega)

/-- One over one plus the exponential of the negated argument, as the kernels write it. -/
theorem sigmoid_kernel (z : EReal) : Ideal.div 1 (1 + Ideal.exp (0 - z)) = Ideal.logistic z := by
  rw [zero_sub]
  rfl

/-- A sum of `256 * n` terms, 256 at a time. -/
theorem sum_chunks (n : ℕ) (f : ℕ → EReal) :
    ∑ k : Fin (256 * n), f k.val = ∑ c : Fin n, ∑ j : Fin 256, f (256 * c.val + j.val) := by
  rw [← Fintype.sum_prod_type' (f := fun (c : Fin n) (j : Fin 256) => f (256 * c.val + j.val))]
  refine Fintype.sum_equiv ((finCongr (Nat.mul_comm 256 n)).trans finProdFinEquiv.symm) _ _ fun k => ?_
  refine congrArg f ?_
  show k.val = 256 * (k.val / 256) + k.val % 256
  omega

/-- The modulation's part `p` of every token, as the references spread it: row 0 over the context tokens, then a row per
    request. -/
theorem spread_apply (mod : FVec Ideal ⟨3, ![3, 6, 1024]⟩ .f32) (p : Fin 6) (h1 h2 h3 h4 h5 h6 h7 h8 h9) (t : Fin 10240) (j : Fin 1024) :
    concatenate ⟨2, ![10240, 1024]⟩ 0
      [⟨⟨2, ![8192, 1024]⟩, broadcastInDim ⟨2, ![8192, 1024]⟩ ![1] h3
          (shapeCast ⟨1, ![1024]⟩ (extractStridedSlice ⟨3, ![1, 1, 1024]⟩ ![0, p.val, 0] mod h1) h2)⟩,
        ⟨⟨2, ![2048, 1024]⟩, shapeCast ⟨2, ![2048, 1024]⟩ (broadcastInDim ⟨3, ![2, 1024, 1024]⟩ ![0, 1, 2] h7
          (broadcastInDim ⟨3, ![2, 1, 1024]⟩ ![0, 2] h6
            (shapeCast ⟨2, ![2, 1024]⟩ (extractStridedSlice ⟨3, ![2, 1, 1024]⟩ ![1, p.val, 0] mod h4) h5))) h8⟩] h9 (ix2 t j)
      = mod (ix3 (modRow t) p j) := by
  have ht := t.isLt
  unfold modRow
  by_cases h : t.val < 8192
  · rw [if_pos h, concatenate_pair_apply_left (t := ⟨2, ![10240, 1024]⟩) (s₁ := ⟨2, ![8192, 1024]⟩) (s₂ := ⟨2, ![2048, 1024]⟩) 0 _ _ _ _ rfl (ix2 ⟨t.val, h⟩ j)
      (fun a => by match a with | ⟨0, _⟩ => rfl | ⟨1, _⟩ => rfl)]
    pointwise
  · rw [if_neg h, concatenate_pair_apply_right (t := ⟨2, ![10240, 1024]⟩) (s₁ := ⟨2, ![8192, 1024]⟩) (s₂ := ⟨2, ![2048, 1024]⟩) 0 _ _ _ _ rfl rfl
      (ix2 ⟨t.val - 8192, by omega⟩ j) (fun a ha => by match a with | ⟨0, _⟩ => exact absurd rfl ha | ⟨1, _⟩ => rfl)
      (by show t.val - 8192 + 8192 = t.val; omega)]
    rw [shapeCast_apply _ _ _ (ix3 ⟨(t.val - 8192) / 1024, by omega⟩ ⟨(t.val - 8192) % 1024, by omega⟩ j)
      (by rw [Shape.rowMajor_val_two, Shape.rowMajor_val_three]; show (((t.val - 8192) / 1024) * 1024 + (t.val - 8192) % 1024) * 1024 + j.val = (t.val - 8192) * 1024 + j.val; omega)]
    pointwise

end Cert.Layer

end
-- ==== Proof.Residual.Spec.lean ====
/- The last residual and norm as one function of the tokens, the experts' output, the modulation and the gain. -/
module

public import proofs.«01_k».proof.Proof.Layer

@[expose] public section

set_option maxRecDepth 16384

noncomputable section

namespace Cert.Residual

open Idealize.ShloMosaic Cert.Layer

variable (x f : (⟨2, ![10240, 1024]⟩ : Shape).Idx → EReal) (mod : (⟨3, ![3, 6, 1024]⟩ : Shape).Idx → EReal) (g : (⟨1, ![1024]⟩ : Shape).Idx → EReal)

/-- A token plus the gated output of its experts. -/
def summed (t : Fin 10240) (k : Fin 1024) : EReal := x (ix2 t k) + mod (ix3 (modRow t) 5 k) * f (ix2 t k)

/-- The norm of that. -/
def resultAt (t : Fin 10240) (j : Fin 1024) : EReal := normed width (summed x f mod t) (fun k => g (ix1 k)) j

def result : (⟨2, ![10240, 1024]⟩ : Shape).Idx → EReal := fun i => resultAt x f mod g (i 0) (i 1)

end Cert.Residual

end
-- ==== Proof.Residual.Tile.lean ====
/- What the last residual and norm store in a tile of 512 tokens. -/
module

public import proofs.«01_k».proof.Proof.Gen.Kernel2Ideal.Frame
public import proofs.«01_k».proof.Proof.Residual.Spec
public import Idealize.ShloMosaic.Lib.Pipeline.ValueKit
public import Idealize.ShloMosaic.Lib.Pointwise

@[expose] public section

set_option maxRecDepth 16384

noncomputable section

namespace Cert.Residual

open Idealize.ShloMosaic Cert.Kernel2Ideal Cert.Kernel2Ideal.Gen Cert.Layer

variable (x0 x1 : Vec Ideal S512x1024 .f32) (x2 : Vec Ideal S1x6x1024 .f32) (x3 : Vec Ideal S1x1024 .f32)

/-- The tile the body leaves. -/
def block : Vec Ideal S512x1024 .f32 := fun i =>
  normed width (fun k => x0 (ix2 (i 0) k) + x2 (ix3 0 5 k) * x1 (ix2 (i 0) k)) (fun k => x3 (ix2 0 k)) (i 1)

theorem block_apply (r : Fin 512) (j : Fin 1024) : block x0 x1 x2 x3 (ix2 r j)
      = normed width (fun k => x0 (ix2 r k) + x2 (ix3 0 5 k) * x1 (ix2 r k)) (fun k => x3 (ix2 0 k)) j := rfl

theorem norm_apply (r : Fin 512) (j : Fin 1024) : k0_pay1 x0 x2 x1 x3 (ix2 r j)
      = normed width (fun k => x0 (ix2 r k) + x2 (ix3 0 5 k) * x1 (ix2 r k)) (fun k => x3 (ix2 0 k)) j := by
  pointwise [k0_pay1]
  rfl

theorem ld_rows (x : Vec Ideal S512x1024 .f32) : View.ld x r0_0 = x := View.ld_unit_lit _ x (by decide)
theorem ld_mod : View.ld x2 r0_1 = x2 := View.ld_unit_lit _ x2 (by decide)
theorem ld_gain : View.ld x3 r0_2 = x3 := View.ld_unit_lit _ x3 (by decide)

theorem emb_out (r : Fin 512) (j : Fin 1024) : r0_0.emb (ix2 r j) = ix2 r j := funext fun a => Fin.ext (by
  match a with
  | ⟨0, _⟩ => show 0 + 1 * r.val = r.val; omega
  | ⟨1, _⟩ => show 0 + 1 * j.val = j.val; omega)

theorem out_apply : out0_4 x0 x1 x2 x3 = block x0 x1 x2 x3 := by
  unfold out0_4
  rw [ld_rows, ld_rows, ld_mod, ld_gain]
  funext y
  refine View.canon_apply_of_pieces (Val := Elt Ideal) (block x0 x1 x2 x3) _ (fun p hp => ?_) y (cover0_4 _ y)
  simp only [List.mem_cons, List.not_mem_nil, or_false] at hp
  rcases hp with rfl
  intro i
  idx_vars i
  rw [emb_out]
  exact norm_apply x0 x1 x2 x3 i0 i1

end Cert.Residual

end
-- ==== Proof.Residual.Value.lean ====
/- The array the last residual and norm leave, from the tiles' blocks. -/
module

public import proofs.«01_k».proof.Proof.Gen.Kernel2Ideal.Value
public import proofs.«01_k».proof.Proof.Residual.Tile

@[expose] public section

set_option maxRecDepth 16384

noncomputable section

namespace Cert.Residual

open Idealize.ShloMosaic Idealize.ShloMosaic.TcCoe Idealize.SL.Sem Cert.Kernel2Ideal Cert.Kernel2Ideal.Gen Cert.Layer
open Idealize.ShloMosaic.Pipeline (Dat)

variable (m : (ℓ : Loc nD τ sig) → Buf (Elt Ideal) ℓ) (ρ : Dev nD → PrngReg)

/-- The tokens. -/
abbrev tokens (c : Dev nD) : FVec Ideal S10240x1024 .f32 := m ((c : Thread nD τ).loc main_arg0)
/-- The experts' output. -/
abbrev experts (c : Dev nD) : FVec Ideal S10240x1024 .f32 := m ((c : Thread nD τ).loc main_arg1)
/-- The modulation. -/
abbrev modulation (c : Dev nD) : FVec Ideal S3x6x1024 .f32 := m ((c : Thread nD τ).loc main_arg2)
/-- The norm's gain. -/
abbrev gain (c : Dev nD) : FVec Ideal S1024 .f32 := m ((c : Thread nD τ).loc main_arg3)

theorem gain_eq (c : Dev nD) : (V m c main_v0 : Vec Ideal S1x1024 .f32) = broadcastInDim S1x1024 ![1] bcast_S1024_S1x1024_1 (gain m c) := by
  show StableHlo.after hostOps0 _ _ = _
  after_results

theorem points (t : Fin cfg0.N) : t.val < 20 := t.isLt

theorem index0 (t : Fin cfg0.N) : win0_0.index t 0 * win0_0.size 0 = 512 * t.val ∧ win0_0.index t 1 * win0_0.size 1 = 0 := by
  revert t
  decide +kernel

theorem index1 (t : Fin cfg0.N) : win0_1.index t 0 * win0_1.size 0 = 512 * t.val ∧ win0_1.index t 1 * win0_1.size 1 = 0 := by
  revert t
  decide +kernel

theorem index2 (t : Fin cfg0.N) : win0_2.index t 0 * win0_2.size 0 = (tileRow t.val).val ∧ win0_2.index t 1 * win0_2.size 1 = 0
    ∧ win0_2.index t 2 * win0_2.size 2 = 0 := by
  revert t
  decide +kernel

theorem index3 (t : Fin cfg0.N) : win0_3.index t 0 * win0_3.size 0 = 0 ∧ win0_3.index t 1 * win0_3.size 1 = 0 := by
  revert t
  decide +kernel

theorem index4 (t : Fin cfg0.N) : win0_4.index t 0 * win0_4.size 0 = 512 * t.val ∧ win0_4.index t 1 * win0_4.size 1 = 0
    ∧ win0_4.xsize (grid0.coords t) 0 = 512 ∧ win0_4.xsize (grid0.coords t) 1 = 1024 := by
  revert t
  decide +kernel

theorem block0 (c : Dev nD) (t : Fin cfg0.N) (r : Fin 512) (k : Fin 1024) :
    (iblk m c 0 t : Vec Ideal S512x1024 .f32) (ix2 r k) = tokens m c (ix2 ⟨512 * t.val + r.val, by have := points t; omega⟩ k) := by
  refine Eq.trans (congrArg (V m c main_arg0 : Vec Ideal S10240x1024 .f32) (funext fun a => Fin.ext ?_)) (congrFun (V_main_arg0 m c) _)
  have e := index0 t
  match a with
  | ⟨0, _⟩ => show win0_0.index t 0 * win0_0.size 0 + 1 * r.val = 512 * t.val + r.val; omega
  | ⟨1, _⟩ => show win0_0.index t 1 * win0_0.size 1 + 1 * k.val = k.val; omega

theorem block1 (c : Dev nD) (t : Fin cfg0.N) (r : Fin 512) (k : Fin 1024) :
    (iblk m c 1 t : Vec Ideal S512x1024 .f32) (ix2 r k) = experts m c (ix2 ⟨512 * t.val + r.val, by have := points t; omega⟩ k) := by
  refine Eq.trans (congrArg (V m c main_arg1 : Vec Ideal S10240x1024 .f32) (funext fun a => Fin.ext ?_)) (congrFun (V_main_arg1 m c) _)
  have e := index1 t
  match a with
  | ⟨0, _⟩ => show win0_1.index t 0 * win0_1.size 0 + 1 * r.val = 512 * t.val + r.val; omega
  | ⟨1, _⟩ => show win0_1.index t 1 * win0_1.size 1 + 1 * k.val = k.val; omega

theorem block2 (c : Dev nD) (t : Fin cfg0.N) (p : Fin 6) (k : Fin 1024) :
    (iblk m c 2 t : Vec Ideal S1x6x1024 .f32) (ix3 0 p k) = modulation m c (ix3 (tileRow t.val) p k) := by
  refine Eq.trans (congrArg (V m c main_arg2 : Vec Ideal S3x6x1024 .f32) (funext fun a => Fin.ext ?_)) (congrFun (V_main_arg2 m c) _)
  have e := index2 t
  match a with
  | ⟨0, _⟩ => show win0_2.index t 0 * win0_2.size 0 + 1 * 0 = (tileRow t.val).val; omega
  | ⟨1, _⟩ => show win0_2.index t 1 * win0_2.size 1 + 1 * p.val = p.val; omega
  | ⟨2, _⟩ => show win0_2.index t 2 * win0_2.size 2 + 1 * k.val = k.val; omega

theorem block3 (c : Dev nD) (t : Fin cfg0.N) (k : Fin 1024) :
    (iblk m c 3 t : Vec Ideal S1x1024 .f32) (ix2 0 k) = gain m c (ix1 k) := by
  refine Eq.trans (congrArg (V m c main_v0 : Vec Ideal S1x1024 .f32) (a₂ := ix2 0 k) (funext fun a => Fin.ext ?_))
    ((congrFun (gain_eq m c) _).trans (by pointwise))
  have e := index3 t
  match a with
  | ⟨0, _⟩ => show win0_3.index t 0 * win0_3.size 0 + 1 * 0 = 0; omega
  | ⟨1, _⟩ => show win0_3.index t 1 * win0_3.size 1 + 1 * k.val = k.val; omega

/-- The layer's result of the arguments on device `c`. -/
abbrev out (c : Dev nD) : FVec Ideal S10240x1024 .f32 := result (tokens m c) (experts m c) (modulation m c) (gain m c)

theorem block_eq (c : Dev nD) (t : Fin cfg0.N) (r : Fin 512) (j : Fin 1024) :
    block (iblk m c 0 t) (iblk m c 1 t) (iblk m c 2 t) (iblk m c 3 t) (ix2 r j)
      = out m c (ix2 ⟨512 * t.val + r.val, by have := points t; omega⟩ j) := by
  refine Eq.trans (b := normed width (fun k => tokens m c (ix2 ⟨512 * t.val + r.val, by have := points t; omega⟩ k)
      + modulation m c (ix3 (tileRow t.val) 5 k) * experts m c (ix2 ⟨512 * t.val + r.val, by have := points t; omega⟩ k)) (fun k => gain m c (ix1 k)) j) ?_ ?_
  · rw [block_apply]
    simp only [block0, block1, block2, block3]
  · rw [← modRow_tile t.val r (by have := points t; omega)]
    rfl

theorem flushed_eq (c : Dev nD) (t : Fin cfg0.N) : (dats m 0 c).flushed 4 t = (win0_4.blk t).view.read (Elt Ideal) (out m c) := by
  have ht := points t
  rw [Value.flushed4, out_apply]
  funext i
  have e := index4 t
  have h0 : (i 0).val < 512 := lt_of_lt_of_eq (i 0).isLt e.2.2.1
  have h1 : (i 1).val < 1024 := lt_of_lt_of_eq (i 1).isLt e.2.2.2
  have ei : ((win0_4.blk t).view.emb i : S10240x1024.Idx) = ix2 ⟨512 * t.val + (i 0).val, by omega⟩ ⟨(i 1).val, h1⟩ := by
    funext a
    match a with
    | ⟨0, _⟩ => exact Fin.ext (by show win0_4.index t 0 * win0_4.size 0 + 1 * (i 0).val = 512 * t.val + (i 0).val; omega)
    | ⟨1, _⟩ => exact Fin.ext (by show win0_4.index t 1 * win0_4.size 1 + 1 * (i 1).val = (i 1).val; omega)
  exact Eq.trans (block_eq m c t ⟨(i 0).val, h0⟩ ⟨(i 1).val, h1⟩) (congrArg (out m c) ei).symm

theorem cover (i : S10240x1024.Idx) : ∃ t : Fin cfg0.N, (cfg0.win 4).flush t = true ∧ i ∈ ((cfg0.win 4).blk t).view.set := by
  have h0 : (i 0).val < 10240 := (i 0).isLt
  have h1 : (i 1).val < 1024 := (i 1).isLt
  have hN : cfg0.N = 20 := N_0
  refine ⟨⟨(i 0).val / 512, by omega⟩, flush0_4 _, ?_⟩
  generalize ht : (⟨(i 0).val / 512, by omega⟩ : Fin cfg0.N) = t
  have hv : t.val = (i 0).val / 512 := by rw [← ht]
  have e := index4 t
  show i ∈ ((View.whole main_v1).slice (win0_4.rect t)).set
  rw [View.set_slice_whole, Rect.mem_set_unit]
  intro a
  match a with
  | ⟨0, _⟩ => show win0_4.index t 0 * win0_4.size 0 ≤ (i 0).val ∧ (i 0).val < win0_4.index t 0 * win0_4.size 0 + win0_4.xsize (grid0.coords t) 0; omega
  | ⟨1, _⟩ => show win0_4.index t 1 * win0_4.size 1 ≤ (i 1).val ∧ (i 1).val < win0_4.index t 1 * win0_4.size 1 + win0_4.xsize (grid0.coords t) 1; omega

/-- The run: the result array at the result, the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (out m c) (fun t _ => flushed_eq m c t) cover), (h c).2⟩)
    (Value.run_blocks m ρ)

end Cert.Residual

end
-- ==== Proof.Residual.Reference.lean ====
/- The reference's last residual and norm, stage by stage. -/
module

public import proofs.«01_k».proof.Proof.Residual.Spec
public import proofs.«01_k».proof.Proof.Gen.Reference2Ideal.Read

@[expose] public section

set_option maxRecDepth 16384

noncomputable section

namespace Cert.Residual.Reference

open Idealize.ShloMosaic Idealize.ShloMosaic.TcCoe Idealize.SL.Sem Cert.Reference2Ideal Cert.Reference2Ideal.Gen Cert.Reference2Ideal.Read Cert.Layer Cert.Residual

variable (x0 x1 : FVec Ideal S10240x1024 .f32) (x2 : FVec Ideal S3x6x1024 .f32) (x3 : FVec Ideal S1024 .f32)

theorem gate_apply (t : Fin 10240) (j : Fin 1024) : val_main_v8 (F := Ideal) x2 (ix2 t j) = x2 (ix3 (modRow t) 5 j) :=
  spread_apply x2 5 _ _ _ _ _ _ _ _ _ t j

theorem summed_apply (t : Fin 10240) (k : Fin 1024) : val_main_v10 (F := Ideal) x0 x1 x2 (ix2 t k) = summed x0 x1 x2 t k := by
  rw [val_main_v10_apply, val_main_v9_apply, gate_apply]
  rfl

theorem result_apply (t : Fin 10240) (j : Fin 1024) : val_main_v23 (F := Ideal) x0 x1 x2 x3 (ix2 t j) = resultAt x0 x1 x2 x3 t j := by
  have e : ∀ (y : FVec Ideal S10240x1024 .f32), y = val_main_v10 (F := Ideal) x0 x1 x2 →
      val_main_v23 (F := Ideal) x0 x1 x2 x3 (ix2 t j) = normed width (fun k => y (ix2 t k)) (fun k => x3 (ix1 k)) j := by
    intro y hy
    unfold val_main_v23 val_main_v22 val_main_v21 val_main_v20 val_main_v19 val_main_v18 val_main_v17 val_main_v16 val_main_v15 val_main_v14
      val_main_v13 val_main_v12 val_main_v11 val_main_cst val_main_cst_0 val_main_cst_1
    rw [← hy]
    pointwise
    rfl
  rw [e _ rfl]
  simp only [summed_apply]
  rfl

/-- The reference's result. -/
theorem result_eq : val_main_v23 (F := Ideal) x0 x1 x2 x3 = result x0 x1 x2 x3 := by
  funext i
  obtain ⟨t, j, rfl⟩ : ∃ (t : Fin 10240) (j : Fin 1024), i = ix2 t j := ⟨i 0, i 1, eq_ix2 i⟩
  exact result_apply x0 x1 x2 x3 t j

end Cert.Residual.Reference

end
-- ==== Proof.Residual.Claims.lean ====
/- The claims about the last residual and norm. -/
module

public import proofs.«01_k».proof.Defs
public import proofs.«01_k».proof.Proof.Residual.Value
public import proofs.«01_k».proof.Proof.Residual.Reference
public import proofs.«01_k».proof.Proof.Gen.Kernel2.Frame

@[expose] public section

noncomputable section

namespace Cert.Residual.Claims

open Idealize.ShloMosaic Idealize.ShloMosaic.TcCoe Idealize.SL.Sem

theorem frame : Cert.quiescent_Kernel2 := fun m ρ _ => Cert.Kernel2.Gen.frame m ρ

theorem frame_ideal : Cert.quiescent_Kernel2Ideal := fun m ρ _ => Cert.Kernel2Ideal.Gen.frame m ρ

/-- The reference declares no semaphore, so its counters are zero at the end. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result is the reference's. -/
theorem algebraic : Cert.algebraic_Kernel2Ideal_Reference2Ideal := fun m ρ m' ρ' _ hag =>
  ⟨fun c => out m c, run m ρ,
    (θ_run Cert.Reference2Ideal.defs _ _).mono (fun _ h c => ⟨(h c).1.trans (by
      rw [Cert.Reference2Ideal.Read.val_main_v23_eq, (hag c).1, (hag c).2.1, (hag c).2.2.1, (hag c).2.2.2]
      exact Reference.result_eq _ _ _ _), (h c).2⟩)
      (Cert.Reference2Ideal.Value.run (F := Ideal) m' ρ')⟩

end Cert.Residual.Claims

end
-- ==== Proof.Projection.Spec.lean ====
/- What the input projection gives, index by index, as functions of its arguments. -/
module

public import proofs.«01_k».proof.Proof.Layer

@[expose] public section

set_option maxRecDepth 16384

noncomputable section

namespace Cert.Projection

open Idealize.ShloMosaic Cert.Layer

/-- A token after its norm and its modulation, at channel `k`. -/
def hidden (x g scale shift : Fin 1024 → EReal) (k : Fin 1024) : EReal := normed width x g k * (1 + scale k) + shift k

/-- One column of the product with the weights. -/
def column (h : Fin 1024 → EReal) (w : FVec Ideal ⟨2, ![1024, 4096]⟩ .f32) (f : Fin 4096) : EReal := ∑ k, h k * w (ix2 k f)

/-- A head of the keys from the product's columns. -/
def key (z : Fin 4096 → EReal) (g : Fin 64 → EReal) (a : Fin 4) (e : Fin 64) : EReal :=
  normed headWidth (fun d => z ⟨1536 + 64 * a.val + d.val, by omega⟩) g e

variable (x : (⟨2, ![10240, 1024]⟩ : Shape).Idx → EReal) (mod : (⟨3, ![3, 6, 1024]⟩ : Shape).Idx → EReal) (g : (⟨1, ![1024]⟩ : Shape).Idx → EReal)
  (w : FVec Ideal ⟨2, ![1024, 4096]⟩ .f32) (gk : (⟨1, ![64]⟩ : Shape).Idx → EReal)

/-- The product's columns for token `t`. -/
def columns (t : Fin 10240) : Fin 4096 → EReal :=
  column (hidden (fun k => x (ix2 t k)) (fun k => g (ix1 k)) (fun k => mod (ix3 (modRow t) 1 k)) (fun k => mod (ix3 (modRow t) 0 k))) w

/-! ## The five results -/

def inner : (⟨2, ![10240, 512]⟩ : Shape).Idx → EReal := fun i => columns x mod g w (i 0) ⟨(i 1).val, lt_trans (i 1).isLt (by decide : 512 < 4096)⟩

def keys : (⟨2, ![10240, 256]⟩ : Shape).Idx → EReal := fun i =>
  key (columns x mod g w (i 0)) (fun e => gk (ix1 e)) ⟨(i 1).val / 64, by have := (i 1).isLt; change _ < 256 at this; omega⟩
    ⟨(i 1).val % 64, by omega⟩

def values : (⟨2, ![10240, 256]⟩ : Shape).Idx → EReal := fun i =>
  columns x mod g w (i 0) ⟨1792 + (i 1).val, by have := (i 1).isLt; change _ < 256 at this; omega⟩

def firstGate : (⟨2, ![10240, 1024]⟩ : Shape).Idx → EReal := fun i =>
  Ideal.logistic (columns x mod g w (i 0) ⟨2048 + (i 1).val, by have := (i 1).isLt; change _ < 1024 at this; omega⟩)

def secondGate : (⟨2, ![10240, 1024]⟩ : Shape).Idx → EReal := fun i =>
  Ideal.logistic (columns x mod g w (i 0) ⟨3072 + (i 1).val, by have := (i 1).isLt; change _ < 1024 at this; omega⟩)

/-! ## Two facts about the extended reals -/

theorem headWidth_eq : headWidth = ((64 : ℝ) : EReal) := by
  simp [headWidth, Ideal.ofBits, Ideal.ieee]
  norm_num [zpow_neg]
  rw [← EReal.coe_mul]
  norm_num

/-- A 64th is a multiplication. -/
theorem div_headWidth (s : EReal) : s * Ideal.ofBits .f32 0x3C800000#32 = Ideal.div s headWidth := by
  have e : Ideal.ofBits .f32 0x3C800000#32 = ((1 / 64 : ℝ) : EReal) := by
    simp [Ideal.ofBits, Ideal.ieee]
    norm_num [zpow_neg]
    rw [← EReal.coe_mul]
    norm_num
  have h0 : ((64 : ℝ) : EReal) ≠ 0 := by exact_mod_cast (by norm_num : (64 : ℝ) ≠ 0)
  rw [Ideal.div, headWidth_eq, if_neg h0, e, ← EReal.coe_inv]
  norm_num

/-- A sum over 256 lanes that keeps one head's lanes. -/
theorem sum_of_head (f : Fin 256 → EReal) (j : Fin 256) :
    ∑ l : Fin 256, f l * (if l.val / 64 = j.val / 64 then 1 else 0) = ∑ d : Fin 64, f ⟨64 * (j.val / 64) + d.val, by omega⟩ := by
  simp only [mul_ite, mul_one, mul_zero]
  rw [← Finset.sum_filter]
  symm
  refine Finset.sum_bij (fun d _ => (⟨64 * (j.val / 64) + d.val, by omega⟩ : Fin 256)) (fun d _ => ?_) (fun a _ b _ h => ?_) (fun l hl => ?_) (fun d _ => rfl)
  · refine Finset.mem_filter.2 ⟨Finset.mem_univ _, ?_⟩
    show (64 * (j.val / 64) + d.val) / 64 = j.val / 64
    omega
  · have h' : 64 * (j.val / 64) + a.val = 64 * (j.val / 64) + b.val := congrArg Fin.val h
    exact Fin.ext (by omega)
  · have h' := (Finset.mem_filter.1 hl).2
    exact ⟨⟨l.val % 64, by omega⟩, Finset.mem_univ _, Fin.ext (by show 64 * (j.val / 64) + l.val % 64 = l.val; omega)⟩

end Cert.Projection

end
-- ==== Proof.Projection.Tile.lean ====
/- What the input projection stores in a tile of 512 tokens. -/
module

public import proofs.«01_k».proof.Proof.Gen.Kernel3Ideal.Frame
public import proofs.«01_k».proof.Proof.Projection.Spec
public import Idealize.ShloMosaic.Lib.Pipeline.ValueKit
public import Idealize.ShloMosaic.Lib.Pointwise

@[expose] public section

set_option maxRecDepth 16384

noncomputable section

namespace Cert.Projection

open Idealize.ShloMosaic Cert.Kernel3Ideal Cert.Kernel3Ideal.Gen Cert.Layer

theorem pay2_apply (v : Vec Ideal S1x6x1024 .f32) (x : Vec Ideal S512x1024 .f32) (g : Vec Ideal S1x1024 .f32) (r : Fin 512) (k : Fin 1024) :
    k0_pay2 (F := Ideal) v x g (ix2 r k)
      = hidden (fun l => x (ix2 r l)) (fun l => g (ix2 0 l)) (fun l => v (ix3 0 1 l)) (fun l => v (ix3 0 0 l)) k := by
  pointwise [k0_pay2]
  rfl

theorem pay5_apply (v : Vec Ideal S1x6x1024 .f32) (x : Vec Ideal S512x1024 .f32) (g : Vec Ideal S1x1024 .f32) (w : Vec Ideal S1024x512 .bf16)
    (r j : Fin 512) : k0_pay5 (F := Ideal) v x g w (ix2 r j) = ∑ k, k0_pay2 (F := Ideal) v x g (ix2 r k) * w (ix2 k j) := by
  unfold k0_pay5
  generalize k0_pay2 (F := Ideal) v x g = H
  pointwise

variable (H : FVec Ideal S512x1024 .bf16)

theorem pay13_apply (w : FVec Ideal S1024x256 .bf16) (r : Fin 512) (j : Fin 256) : k0_pay13 H w (ix2 r j) = ∑ k, H (ix2 r k) * w (ix2 k j) := by
  pointwise [k0_pay13]

theorem pay14_apply (w : FVec Ideal S1024x1024 .bf16) (r : Fin 512) (j : Fin 1024) :
    k0_pay14 H w (ix2 r j) = Ideal.logistic (∑ k, H (ix2 r k) * w (ix2 k j)) := by
  pointwise [k0_pay14]
  exact sigmoid_kernel _

theorem pay1_eq (w : FVec Ideal S1024x1024 .bf16) : k0_pay1 (k0_pay15 H w) = k0_pay14 H w := rfl

/-! ## The keys' norms -/

/-- The matrix of ones on the blocks of one head. -/
def Blocks (o : FVec Ideal S256x256 .bf16) : Prop := ∀ l j : Fin 256, o (ix2 l j) = if l.val / 64 = j.val / 64 then 1 else 0

/-- The squares of a row's head, all of whose lanes get their sum. -/
theorem squares (o : FVec Ideal S256x256 .bf16) (ho : Blocks o) (f : Fin 256 → EReal) (j : Fin 256) :
    ∑ l : Fin 256, f l * o (ix2 l j) = ∑ d : Fin 64, f ⟨64 * (j.val / 64) + d.val, by omega⟩ := by
  rw [← sum_of_head f j]
  exact Finset.sum_congr rfl fun l _ => congrArg (f l * ·) (ho l j)

/-- Lane `j` of a row's columns `z`, its head normed, times the gain `g`. -/
def headNormed (z : Fin 256 → EReal) (g : EReal) (j : Fin 256) : EReal :=
  z j * Ideal.rsqrt (Ideal.div (∑ d : Fin 64, z ⟨64 * (j.val / 64) + d.val, by omega⟩ * z ⟨64 * (j.val / 64) + d.val, by omega⟩) headWidth + eps) * g

theorem pay9_apply (w : FVec Ideal S1024x256 .bf16) (o : FVec Ideal S256x256 .bf16) (ho : Blocks o) (g : FVec Ideal S1x256 .f32) (r : Fin 512) (j : Fin 256) :
    k0_pay9 H w o g (ix2 r j) = headNormed (fun f => ∑ k, H (ix2 r k) * w (ix2 k f)) (g (ix2 0 j)) j := by
  pointwise [k0_pay9]
  rw [div_headWidth]
  refine congrArg₂ (· * ·) (congrArg₂ (· * ·) rfl (congrArg (fun s => Ideal.rsqrt (Ideal.div s headWidth + eps)) ?_)) rfl
  exact squares o ho (fun l => (∑ k, H (ix2 r k) * w (ix2 k l)) * (∑ k, H (ix2 r k) * w (ix2 k l))) j

/-! ## The stores -/

variable (x0 : Vec Ideal S512x1024 .f32) (x1 : Vec Ideal S1x6x1024 .f32) (x2 : Vec Ideal S1x1024 .f32) (x3 : Vec Ideal S1024x4096 .bf16)
  (x4 : Vec Ideal S1024x1024 .bf16) (x5 : Vec Ideal S1x1024 .f32) (x6 : Vec Ideal S1x256 .f32) (x7 x8 : Vec Ideal S512x128 .f32)

theorem ld_mod : View.ld x1 r0_0 = x1 := View.ld_unit_lit _ x1 (by decide)
theorem ld_tokens : View.ld x0 r0_1 = x0 := View.ld_unit_lit _ x0 (by decide)
theorem ld_gain : View.ld x2 r0_2 = x2 := View.ld_unit_lit _ x2 (by decide)
theorem ld_gainK : View.ld x6 r0_10 = x6 := View.ld_unit_lit _ x6 (by decide)

theorem ld_inner (k : Fin 1024) (f : Fin 512) : View.ld x3 r0_4 (ix2 k f) = x3 (ix2 k ⟨0 + f.val, by omega⟩) :=
  congrArg x3 (funext fun a => Fin.ext (by
    match a with
    | ⟨0, _⟩ => show 0 + 1 * k.val = k.val; omega
    | ⟨1, _⟩ => show 0 + 1 * f.val = 0 + f.val; omega))

theorem ld_keys (k : Fin 1024) (f : Fin 256) : View.ld x3 r0_8 (ix2 k f) = x3 (ix2 k ⟨1536 + f.val, by omega⟩) :=
  congrArg x3 (funext fun a => Fin.ext (by
    match a with
    | ⟨0, _⟩ => show 0 + 1 * k.val = k.val; omega
    | ⟨1, _⟩ => show 1536 + 1 * f.val = 1536 + f.val; omega))

theorem ld_values (k : Fin 1024) (f : Fin 256) : View.ld x3 r0_12 (ix2 k f) = x3 (ix2 k ⟨1792 + f.val, by omega⟩) :=
  congrArg x3 (funext fun a => Fin.ext (by
    match a with
    | ⟨0, _⟩ => show 0 + 1 * k.val = k.val; omega
    | ⟨1, _⟩ => show 1792 + 1 * f.val = 1792 + f.val; omega))

theorem ld_first (k : Fin 1024) (f : Fin 1024) : View.ld x3 r0_13 (ix2 k f) = x3 (ix2 k ⟨2048 + f.val, by omega⟩) :=
  congrArg x3 (funext fun a => Fin.ext (by
    match a with
    | ⟨0, _⟩ => show 0 + 1 * k.val = k.val; omega
    | ⟨1, _⟩ => show 2048 + 1 * f.val = 2048 + f.val; omega))

theorem ld_second (k : Fin 1024) (f : Fin 1024) : View.ld x3 r0_14 (ix2 k f) = x3 (ix2 k ⟨3072 + f.val, by omega⟩) :=
  congrArg x3 (funext fun a => Fin.ext (by
    match a with
    | ⟨0, _⟩ => show 0 + 1 * k.val = k.val; omega
    | ⟨1, _⟩ => show 3072 + 1 * f.val = 3072 + f.val; omega))

theorem ld_ones (l j : Fin 256) : View.ld x4 r0_9 (ix2 l j) = x4 (ix2 ⟨l.val, by omega⟩ ⟨j.val, by omega⟩) :=
  congrArg x4 (funext fun a => Fin.ext (by
    match a with
    | ⟨0, _⟩ => show 0 + 1 * l.val = l.val; omega
    | ⟨1, _⟩ => show 0 + 1 * j.val = j.val; omega))

theorem emb_512 (r : Fin 512) (j : Fin 512) : r0_5.emb (ix2 r j) = ix2 r j := funext fun a => Fin.ext (by
  match a with
  | ⟨0, _⟩ => show 0 + 1 * r.val = r.val; omega
  | ⟨1, _⟩ => show 0 + 1 * j.val = j.val; omega)

theorem emb_256 (r : Fin 512) (j : Fin 256) : r0_11.emb (ix2 r j) = ix2 r j := funext fun a => Fin.ext (by
  match a with
  | ⟨0, _⟩ => show 0 + 1 * r.val = r.val; omega
  | ⟨1, _⟩ => show 0 + 1 * j.val = j.val; omega)

theorem emb_1024 (r : Fin 512) (j : Fin 1024) : r0_1.emb (ix2 r j) = ix2 r j := funext fun a => Fin.ext (by
  match a with
  | ⟨0, _⟩ => show 0 + 1 * r.val = r.val; omega
  | ⟨1, _⟩ => show 0 + 1 * j.val = j.val; omega)

/-- Row `r` of the product, from the tile's blocks. -/
def columnsAt (r : Fin 512) : Fin 4096 → EReal :=
  column (hidden (fun l => x0 (ix2 r l)) (fun l => x2 (ix2 0 l)) (fun l => x1 (ix3 0 1 l)) (fun l => x1 (ix3 0 0 l))) x3

theorem sum_eq {n : ℕ} (u : Fin 1024 → Fin n → EReal) (r : Fin 512) (f : Fin n) (q : Fin 4096) (h : ∀ k, u k f = x3 (ix2 k q)) :
    ∑ k, k0_pay2 (F := Ideal) x1 x0 x2 (ix2 r k) * u k f = columnsAt x0 x1 x2 x3 r q :=
  Finset.sum_congr rfl fun k _ => congrArg₂ (· * ·) (pay2_apply x1 x0 x2 r k) (h k)

def block9 : Vec Ideal S512x512 .f32 := fun i =>
  columnsAt x0 x1 x2 x3 (i 0) ⟨0 + (i 1).val, by have := (i 1).isLt; change _ < 512 at this; omega⟩

theorem out9_apply : out0_9 x0 x1 x2 x3 x4 x5 x6 x7 x8 = block9 x0 x1 x2 x3 := by
  unfold out0_9
  rw [ld_mod, ld_tokens, ld_gain]
  funext y
  refine View.canon_apply_of_pieces (Val := Elt Ideal) (block9 x0 x1 x2 x3) _ (fun p hp => ?_) y (cover0_9 _ y)
  simp only [List.mem_cons, List.not_mem_nil, or_false] at hp
  rcases hp with rfl
  intro i
  idx_vars i
  rw [emb_512]
  exact (pay5_apply x1 x0 x2 _ i0 i1).trans (sum_eq x0 x1 x2 x3 (fun k f => View.ld x3 r0_4 (ix2 k f)) i0 i1 _ fun k => ld_inner x3 k i1)

def block12 : Vec Ideal S512x256 .f32 := fun i =>
  headNormed (fun f => columnsAt x0 x1 x2 x3 (i 0) ⟨1536 + f.val, by omega⟩) (x6 (ix2 0 (i 1))) (i 1)

theorem out12_apply (ho : ∀ l j : Fin 256, x4 (ix2 ⟨l.val, by omega⟩ ⟨j.val, by omega⟩) = if l.val / 64 = j.val / 64 then 1 else 0) : out0_12 x0 x1 x2 x3 x4 x5 x6 x7 x8 = block12 x0 x1 x2 x3 x6 := by
  unfold out0_12 k0_pay16
  rw [ld_mod, ld_tokens, ld_gain, ld_gainK]
  funext y
  refine View.canon_apply_of_pieces (Val := Elt Ideal) (block12 x0 x1 x2 x3 x6) _ (fun p hp => ?_) y (cover0_12 _ y)
  simp only [List.mem_cons, List.not_mem_nil, or_false] at hp
  rcases hp with rfl
  intro i
  idx_vars i
  rw [emb_256]
  refine (pay9_apply _ _ _ (fun l j => (ld_ones x4 l j).trans (ho l j)) x6 i0 i1).trans ?_
  exact congrArg (fun z => headNormed z (x6 (ix2 0 i1)) i1) (funext fun f =>
    sum_eq x0 x1 x2 x3 (fun k f => View.ld x3 r0_8 (ix2 k f)) i0 f _ fun k => ld_keys x3 k f)

def block13 : Vec Ideal S512x256 .f32 := fun i =>
  columnsAt x0 x1 x2 x3 (i 0) ⟨1792 + (i 1).val, by have := (i 1).isLt; change _ < 256 at this; omega⟩

theorem out13_apply : out0_13 x0 x1 x2 x3 x4 x5 x6 x7 x8 = block13 x0 x1 x2 x3 := by
  unfold out0_13 k0_pay16
  rw [ld_mod, ld_tokens, ld_gain]
  funext y
  refine View.canon_apply_of_pieces (Val := Elt Ideal) (block13 x0 x1 x2 x3) _ (fun p hp => ?_) y (cover0_13 _ y)
  simp only [List.mem_cons, List.not_mem_nil, or_false] at hp
  rcases hp with rfl
  intro i
  idx_vars i
  rw [emb_256]
  exact (pay13_apply _ _ i0 i1).trans (sum_eq x0 x1 x2 x3 (fun k f => View.ld x3 r0_12 (ix2 k f)) i0 i1 _ fun k => ld_values x3 k i1)

def block14 : Vec Ideal S512x1024 .f32 := fun i =>
  Ideal.logistic (columnsAt x0 x1 x2 x3 (i 0) ⟨2048 + (i 1).val, by have := (i 1).isLt; change _ < 1024 at this; omega⟩)

theorem out14_apply : out0_14 x0 x1 x2 x3 x4 x5 x6 x7 x8 = block14 x0 x1 x2 x3 := by
  unfold out0_14 k0_pay16
  rw [ld_mod, ld_tokens, ld_gain]
  funext y
  refine View.canon_apply_of_pieces (Val := Elt Ideal) (block14 x0 x1 x2 x3) _ (fun p hp => ?_) y (cover0_14 _ y)
  simp only [List.mem_cons, List.not_mem_nil, or_false] at hp
  rcases hp with rfl
  intro i
  idx_vars i
  rw [emb_1024]
  exact (pay14_apply _ _ i0 i1).trans (congrArg Ideal.logistic
    (sum_eq x0 x1 x2 x3 (fun k f => View.ld x3 r0_13 (ix2 k f)) i0 i1 _ fun k => ld_first x3 k i1))

def block15 : Vec Ideal S512x1024 .f32 := fun i =>
  Ideal.logistic (columnsAt x0 x1 x2 x3 (i 0) ⟨3072 + (i 1).val, by have := (i 1).isLt; change _ < 1024 at this; omega⟩)

theorem out15_apply : out0_15 x0 x1 x2 x3 x4 x5 x6 x7 x8 = block15 x0 x1 x2 x3 := by
  unfold out0_15 k0_pay16
  rw [ld_mod, ld_tokens, ld_gain]
  funext y
  refine View.canon_apply_of_pieces (Val := Elt Ideal) (block15 x0 x1 x2 x3) _ (fun p hp => ?_) y (cover0_15 _ y)
  simp only [List.mem_cons, List.not_mem_nil, or_false] at hp
  rcases hp with rfl
  intro i
  idx_vars i
  rw [emb_1024]
  exact (congrFun (pay1_eq _ _) _).trans ((pay14_apply _ _ i0 i1).trans (congrArg Ideal.logistic
    (sum_eq x0 x1 x2 x3 (fun k f => View.ld x3 r0_14 (ix2 k f)) i0 i1 _ fun k => ld_second x3 k i1)))

end Cert.Projection

end
-- ==== Proof.Projection.Value.lean ====
/- The arrays the input projection leaves, from the tiles' blocks. -/
module

public import proofs.«01_k».proof.Proof.Gen.Kernel3Ideal.Value
public import proofs.«01_k».proof.Proof.Projection.Tile

@[expose] public section

set_option maxRecDepth 16384

noncomputable section

namespace Cert.Projection

open Idealize.ShloMosaic Idealize.ShloMosaic.TcCoe Idealize.SL.Sem Cert.Kernel3Ideal Cert.Kernel3Ideal.Gen Cert.Layer
open Idealize.ShloMosaic.Pipeline (Dat)

variable (m : (ℓ : Loc nD τ sig) → Buf (Elt Ideal) ℓ) (ρ : Dev nD → PrngReg) (c : Dev nD)

/-- The tokens. -/
abbrev tokens : FVec Ideal S10240x1024 .f32 := m ((c : Thread nD τ).loc main_arg0)
/-- The modulation. -/
abbrev modulation : FVec Ideal S3x6x1024 .f32 := m ((c : Thread nD τ).loc main_arg1)
/-- The norm's gain. -/
abbrev gain : FVec Ideal S1024 .f32 := m ((c : Thread nD τ).loc main_arg2)
/-- The weights. -/
abbrev weights : FVec Ideal S1024x4096 .f32 := m ((c : Thread nD τ).loc main_arg3)
/-- The keys' gain. -/
abbrev gainK : FVec Ideal S64 .f32 := m ((c : Thread nD τ).loc main_arg5)

/-! ## The arrays the windows read -/

/-- The matrix of ones on the blocks of one head. -/
def HeadOnes (o : FVec Ideal S1024x1024 .bf16) : Prop := ∀ l j : Fin 1024, o (ix2 l j) = if l.val / 64 = j.val / 64 then 1 else 0

theorem gain_array (k : Fin 1024) : (V m c main_v51 : Vec Ideal S1x1024 .f32) (ix2 0 k) = gain m c (ix1 k) := by
  have e : (V m c main_v51 : Vec Ideal S1x1024 .f32) = broadcastInDim S1x1024 ![1] bcast_S1024_S1x1024_1 (gain m c) := by
    simp only [V, List.flatten_cons, List.flatten_nil, List.append_nil, List.cons_append, List.nil_append]
    after_results
  rw [e]
  pointwise

theorem weights_array : (V m c main_v52 : Vec Ideal S1024x4096 .bf16) = weights m c := by
  simp only [V, List.flatten_cons, List.flatten_nil, List.append_nil, List.cons_append, List.nil_append]
  after_results
  rfl

theorem gainK_array (j : Fin 256) : (V m c main_v60 : Vec Ideal S1x256 .f32) (ix2 0 j) = gainK m c (ix1 ⟨j.val % 64, by omega⟩) := by
  have e : (V m c main_v60 : Vec Ideal S1x256 .f32) = broadcastInDim S1x256 ![1] bcast_S256_S1x256_1 (shapeCast S256
      (broadcastInDim S4x64 ![0, 1] bcast_S1x64_S4x64_0_1 (shapeCast S1x64 (gainK m c) shapeCasts_S64_S1x64)) shapeCasts_S4x64_S256) := by
    simp only [V, List.flatten_cons, List.flatten_nil, List.append_nil, List.cons_append, List.nil_append]
    after_results
    rfl
  rw [e]
  have h : ∀ x : FVec Ideal S256 .f32, broadcastInDim S1x256 ![1] bcast_S256_S1x256_1 x (ix2 0 j) = x (ix1 j) := fun x => by pointwise
  rw [h, shapeCast_apply _ _ _ (ix2 ⟨j.val / 64, by omega⟩ ⟨j.val % 64, by omega⟩)
    (by rw [Shape.rowMajor_val_one, Shape.rowMajor_val_two]; show (j.val / 64) * 64 + j.val % 64 = j.val; omega)]
  pointwise

/-- The head of each of 1024 lanes: the lane's number divided by 64, the quotient rounded down. -/
def heads : (⟨S1024, .i32⟩ : BufTy).Contents (Elt Ideal) :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

theorem heads_apply (l : Fin 1024) : heads (ix1 l) = BitVec.ofNat 32 (l.val / 64) := by
  revert l
  decide +kernel

theorem ones_array : HeadOnes (V m c main_v50 : Vec Ideal S1024x1024 .bf16) := fun l j => by
  have e : (V m c main_v50 : Vec Ideal S1024x1024 .bf16) = (uitofp .bf16 (cmpi .eq
      (broadcastInDim S1024x1024 ![0, 1] bcast_S1024x1_S1024x1024_0_1 (broadcastInDim S1024x1 ![0] bcast_S1024_S1024x1_0 heads))
      (broadcastInDim S1024x1024 ![0, 1] bcast_S1x1024_S1024x1024_0_1 (broadcastInDim S1x1024 ![1] bcast_S1024_S1x1024_1 heads))) : FVec Ideal S1024x1024 .bf16) := by
    simp only [V, List.flatten_cons, List.flatten_nil, List.append_nil, List.cons_append, List.nil_append]
    after_results
    rfl
  rw [e]
  have h1 := heads_apply l
  have h2 := heads_apply j
  generalize heads = h at h1 h2 ⊢
  pointwise
  rw [h1, h2]
  by_cases q : l.val / 64 = j.val / 64
  · rw [q, if_pos rfl]
    simp [IntOp.cmpi, FloatOps.uitofp]
  · have hl := l.isLt
    have hj := j.isLt
    have n : BitVec.ofNat 32 (l.val / 64) ≠ BitVec.ofNat 32 (j.val / 64) := fun w => q (by
      have := congrArg BitVec.toNat w
      simp only [BitVec.toNat_ofNat] at this
      omega)
    rw [if_neg q]
    simp [IntOp.cmpi, FloatOps.uitofp, n]

/-! ## The windows' blocks at an index -/

theorem points (t : Fin cfg0.N) : t.val < 20 := t.isLt

theorem index0 (t : Fin cfg0.N) : win0_0.index t 0 * win0_0.size 0 = 512 * t.val ∧ win0_0.index t 1 * win0_0.size 1 = 0 := by
  revert t
  decide +kernel

theorem index1 (t : Fin cfg0.N) : win0_1.index t 0 * win0_1.size 0 = (tileRow t.val).val ∧ win0_1.index t 1 * win0_1.size 1 = 0
    ∧ win0_1.index t 2 * win0_1.size 2 = 0 := by
  revert t
  decide +kernel

theorem index2 (t : Fin cfg0.N) : win0_2.index t 0 * win0_2.size 0 = 0 ∧ win0_2.index t 1 * win0_2.size 1 = 0 := by
  revert t
  decide +kernel

theorem index3 (t : Fin cfg0.N) : win0_3.index t 0 * win0_3.size 0 = 0 ∧ win0_3.index t 1 * win0_3.size 1 = 0 := by
  revert t
  decide +kernel

theorem index4 (t : Fin cfg0.N) : win0_4.index t 0 * win0_4.size 0 = 0 ∧ win0_4.index t 1 * win0_4.size 1 = 0 := by
  revert t
  decide +kernel

theorem index6 (t : Fin cfg0.N) : win0_6.index t 0 * win0_6.size 0 = 0 ∧ win0_6.index t 1 * win0_6.size 1 = 0 := by
  revert t
  decide +kernel

theorem index9 (t : Fin cfg0.N) : win0_9.index t 0 * win0_9.size 0 = 512 * t.val ∧ win0_9.index t 1 * win0_9.size 1 = 0
    ∧ win0_9.xsize (grid0.coords t) 0 = 512 ∧ win0_9.xsize (grid0.coords t) 1 = 512 := by
  revert t
  decide +kernel

theorem index12 (t : Fin cfg0.N) : win0_12.index t 0 * win0_12.size 0 = 512 * t.val ∧ win0_12.index t 1 * win0_12.size 1 = 0
    ∧ win0_12.xsize (grid0.coords t) 0 = 512 ∧ win0_12.xsize (grid0.coords t) 1 = 256 := by
  revert t
  decide +kernel

theorem index13 (t : Fin cfg0.N) : win0_13.index t 0 * win0_13.size 0 = 512 * t.val ∧ win0_13.index t 1 * win0_13.size 1 = 0
    ∧ win0_13.xsize (grid0.coords t) 0 = 512 ∧ win0_13.xsize (grid0.coords t) 1 = 256 := by
  revert t
  decide +kernel

theorem index14 (t : Fin cfg0.N) : win0_14.index t 0 * win0_14.size 0 = 512 * t.val ∧ win0_14.index t 1 * win0_14.size 1 = 0
    ∧ win0_14.xsize (grid0.coords t) 0 = 512 ∧ win0_14.xsize (grid0.coords t) 1 = 1024 := by
  revert t
  decide +kernel

theorem index15 (t : Fin cfg0.N) : win0_15.index t 0 * win0_15.size 0 = 512 * t.val ∧ win0_15.index t 1 * win0_15.size 1 = 0
    ∧ win0_15.xsize (grid0.coords t) 0 = 512 ∧ win0_15.xsize (grid0.coords t) 1 = 1024 := by
  revert t
  decide +kernel

theorem read0 (c : Dev nD) (t : Fin cfg0.N) (r : Fin 512) (k : Fin 1024) :
    (iblk m c 0 t : Vec Ideal S512x1024 .f32) (ix2 r k) = tokens m c (ix2 ⟨512 * t.val + r.val, by have := points t; omega⟩ k) := by
  refine Eq.trans (congrArg (V m c main_arg0 : Vec Ideal S10240x1024 .f32) (funext fun a => Fin.ext ?_)) (congrFun (V_main_arg0 m c) _)
  have e := index0 t
  match a with
  | ⟨0, _⟩ => show win0_0.index t 0 * win0_0.size 0 + 1 * r.val = 512 * t.val + r.val; omega
  | ⟨1, _⟩ => show win0_0.index t 1 * win0_0.size 1 + 1 * k.val = k.val; omega

theorem read1 (c : Dev nD) (t : Fin cfg0.N) (p : Fin 6) (k : Fin 1024) :
    (iblk m c 1 t : Vec Ideal S1x6x1024 .f32) (ix3 0 p k) = modulation m c (ix3 (tileRow t.val) p k) := by
  refine Eq.trans (congrArg (V m c main_arg1 : Vec Ideal S3x6x1024 .f32) (funext fun a => Fin.ext ?_)) (congrFun (V_main_arg1 m c) _)
  have e := index1 t
  match a with
  | ⟨0, _⟩ => show win0_1.index t 0 * win0_1.size 0 + 1 * 0 = (tileRow t.val).val; omega
  | ⟨1, _⟩ => show win0_1.index t 1 * win0_1.size 1 + 1 * p.val = p.val; omega
  | ⟨2, _⟩ => show win0_1.index t 2 * win0_1.size 2 + 1 * k.val = k.val; omega

theorem read2 (c : Dev nD) (t : Fin cfg0.N) (k : Fin 1024) :
    (iblk m c 2 t : Vec Ideal S1x1024 .f32) (ix2 0 k) = gain m c (ix1 k) := by
  refine Eq.trans (congrArg (V m c main_v51 : Vec Ideal S1x1024 .f32) (a₂ := ix2 0 k) (funext fun a => Fin.ext ?_))
    (gain_array m c k)
  have e := index2 t
  match a with
  | ⟨0, _⟩ => show win0_2.index t 0 * win0_2.size 0 + 1 * 0 = 0; omega
  | ⟨1, _⟩ => show win0_2.index t 1 * win0_2.size 1 + 1 * k.val = k.val; omega

theorem read3 (c : Dev nD) (t : Fin cfg0.N) (k : Fin 1024) (f : Fin 4096) :
    (iblk m c 3 t : Vec Ideal S1024x4096 .bf16) (ix2 k f) = weights m c (ix2 k f) := by
  refine Eq.trans (congrArg (V m c main_v52 : Vec Ideal S1024x4096 .bf16) (funext fun a => Fin.ext ?_)) (congrFun (weights_array m c) _)
  have e := index3 t
  match a with
  | ⟨0, _⟩ => show win0_3.index t 0 * win0_3.size 0 + 1 * k.val = k.val; omega
  | ⟨1, _⟩ => show win0_3.index t 1 * win0_3.size 1 + 1 * f.val = f.val; omega

theorem read4 (c : Dev nD) (t : Fin cfg0.N) : HeadOnes (iblk m c 4 t : Vec Ideal S1024x1024 .bf16) := fun l j => by
  refine Eq.trans (congrArg (V m c main_v50 : Vec Ideal S1024x1024 .bf16) (funext fun a => Fin.ext ?_)) (ones_array m c l j)
  have e := index4 t
  match a with
  | ⟨0, _⟩ => show win0_4.index t 0 * win0_4.size 0 + 1 * l.val = l.val; omega
  | ⟨1, _⟩ => show win0_4.index t 1 * win0_4.size 1 + 1 * j.val = j.val; omega

theorem read6 (c : Dev nD) (t : Fin cfg0.N) (j : Fin 256) :
    (iblk m c 6 t : Vec Ideal S1x256 .f32) (ix2 0 j) = gainK m c (ix1 ⟨j.val % 64, by omega⟩) := by
  refine Eq.trans (congrArg (V m c main_v60 : Vec Ideal S1x256 .f32) (a₂ := ix2 0 j) (funext fun a => Fin.ext ?_)) (gainK_array m c j)
  have e := index6 t
  match a with
  | ⟨0, _⟩ => show win0_6.index t 0 * win0_6.size 0 + 1 * 0 = 0; omega
  | ⟨1, _⟩ => show win0_6.index t 1 * win0_6.size 1 + 1 * j.val = j.val; omega

/-! ## What a point writes back -/

theorem columns_eq (t : Fin cfg0.N) (r : Fin 512) : columnsAt (iblk m c 0 t) (iblk m c 1 t) (iblk m c 2 t) (iblk m c 3 t) r
    = columns (tokens m c) (modulation m c) (gain m c) (weights m c) ⟨512 * t.val + r.val, by have := points t; omega⟩ := by
  funext q
  unfold columnsAt columns column
  rw [modRow_tile]
  simp only [read0, read1, read2, read3]

abbrev result9 : FVec Ideal S10240x512 .f32 := inner (tokens m c) (modulation m c) (gain m c) (weights m c)

theorem tile9 (t : Fin cfg0.N) (r : Fin 512) (j : Fin 512) : block9 (iblk m c 0 t) (iblk m c 1 t) (iblk m c 2 t) (iblk m c 3 t) (ix2 r j)
    = result9 m c (ix2 ⟨512 * t.val + r.val, by have := points t; omega⟩ j) := by
  refine (congrFun (columns_eq m c t r) _).trans ?_
  exact congrArg (columns (tokens m c) (modulation m c) (gain m c) (weights m c) _) (Fin.ext (Nat.zero_add _))

theorem flushed9 (t : Fin cfg0.N) : (dats m 0 c).flushed 9 t = (win0_9.blk t).view.read (Elt Ideal) (result9 m c) := by
  have ht := points t
  rw [Value.flushed9, out9_apply]
  have hk := tile9 m c t
  generalize block9 (iblk m c 0 t) (iblk m c 1 t) (iblk m c 2 t) (iblk m c 3 t) = z at hk ⊢
  generalize result9 m c = o at hk ⊢
  funext i
  have e := index9 t
  have h0 : (i 0).val < 512 := lt_of_lt_of_eq (i 0).isLt e.2.2.1
  have h1 : (i 1).val < 512 := lt_of_lt_of_eq (i 1).isLt e.2.2.2
  have ei : ((win0_9.blk t).view.emb i : S10240x512.Idx) = ix2 ⟨512 * t.val + (i 0).val, by omega⟩ ⟨(i 1).val, h1⟩ := by
    funext a
    match a with
    | ⟨0, _⟩ => exact Fin.ext (by show win0_9.index t 0 * win0_9.size 0 + 1 * (i 0).val = 512 * t.val + (i 0).val; omega)
    | ⟨1, _⟩ => exact Fin.ext (by show win0_9.index t 1 * win0_9.size 1 + 1 * (i 1).val = (i 1).val; omega)
  refine Eq.trans (congrArg z (?_ : _ = ix2 ⟨(i 0).val, h0⟩ ⟨(i 1).val, h1⟩)) (Eq.trans (hk ⟨(i 0).val, h0⟩ ⟨(i 1).val, h1⟩) (congrArg o ei).symm)
  funext a
  match a with
  | ⟨0, _⟩ => exact Fin.ext rfl
  | ⟨1, _⟩ => exact Fin.ext rfl

theorem cover9 (i : S10240x512.Idx) : ∃ t : Fin cfg0.N, (cfg0.win 9).flush t = true ∧ i ∈ ((cfg0.win 9).blk t).view.set := by
  have h0 : (i 0).val < 10240 := (i 0).isLt
  have h1 : (i 1).val < 512 := (i 1).isLt
  have hN : cfg0.N = 20 := N_0
  refine ⟨⟨(i 0).val / 512, by omega⟩, flush0_9 _, ?_⟩
  generalize ht : (⟨(i 0).val / 512, by omega⟩ : Fin cfg0.N) = t
  have hv : t.val = (i 0).val / 512 := by rw [← ht]
  have e := index9 t
  show i ∈ ((View.whole main_v61_0).slice (win0_9.rect t)).set
  rw [View.set_slice_whole, Rect.mem_set_unit]
  intro a
  match a with
  | ⟨0, _⟩ => show win0_9.index t 0 * win0_9.size 0 ≤ (i 0).val ∧ (i 0).val < win0_9.index t 0 * win0_9.size 0 + win0_9.xsize (grid0.coords t) 0; omega
  | ⟨1, _⟩ => show win0_9.index t 1 * win0_9.size 1 ≤ (i 1).val ∧ (i 1).val < win0_9.index t 1 * win0_9.size 1 + win0_9.xsize (grid0.coords t) 1; omega

abbrev result12 : FVec Ideal S10240x256 .f32 := keys (tokens m c) (modulation m c) (gain m c) (weights m c) (gainK m c)

theorem tile12 (t : Fin cfg0.N) (r : Fin 512) (j : Fin 256) : block12 (iblk m c 0 t) (iblk m c 1 t) (iblk m c 2 t) (iblk m c 3 t) (iblk m c 6 t) (ix2 r j)
    = result12 m c (ix2 ⟨512 * t.val + r.val, by have := points t; omega⟩ j) := by
  have hj := j.isLt
  refine Eq.trans (b := headNormed (fun f => columns (tokens m c) (modulation m c) (gain m c) (weights m c) ⟨512 * t.val + r.val, by have := points t; omega⟩ ⟨1536 + f.val, by omega⟩)
    (gainK m c (ix1 ⟨j.val % 64, by omega⟩)) j) (congrArg₂ (fun z g => headNormed z g j) (funext fun f => congrFun (columns_eq m c t r) _) (read6 m c t j)) ?_
  show _ = key _ _ _ _
  generalize columns (tokens m c) (modulation m c) (gain m c) (weights m c) = z
  unfold headNormed key normed
  have e1 : ∀ (h : _ < 4096), (⟨1536 + 64 * (j.val / 64) + j.val % 64, h⟩ : Fin 4096) = ⟨1536 + j.val, by omega⟩ := fun h => Fin.ext (by
    show 1536 + 64 * (j.val / 64) + j.val % 64 = 1536 + j.val
    omega)
  have e2 : ∀ (d : Fin 64) (h : _ < 4096), (⟨1536 + (64 * (j.val / 64) + d.val), h⟩ : Fin 4096) = ⟨1536 + 64 * (j.val / 64) + d.val, by omega⟩ := fun d h => Fin.ext (by
    show 1536 + (64 * (j.val / 64) + d.val) = 1536 + 64 * (j.val / 64) + d.val
    omega)
  simp only [e2]
  refine congrArg₂ (· * ·) (congrArg₂ (· * ·) (congrArg (z _) (e1 _).symm) rfl) rfl

theorem flushed12 (t : Fin cfg0.N) : (dats m 0 c).flushed 12 t = (win0_12.blk t).view.read (Elt Ideal) (result12 m c) := by
  have ht := points t
  rw [Value.flushed12, out12_apply _ _ _ _ _ _ _ _ _ fun l j => read4 m c t _ _]
  have hk := tile12 m c t
  generalize block12 (iblk m c 0 t) (iblk m c 1 t) (iblk m c 2 t) (iblk m c 3 t) (iblk m c 6 t) = z at hk ⊢
  generalize result12 m c = o at hk ⊢
  funext i
  have e := index12 t
  have h0 : (i 0).val < 512 := lt_of_lt_of_eq (i 0).isLt e.2.2.1
  have h1 : (i 1).val < 256 := lt_of_lt_of_eq (i 1).isLt e.2.2.2
  have ei : ((win0_12.blk t).view.emb i : S10240x256.Idx) = ix2 ⟨512 * t.val + (i 0).val, by omega⟩ ⟨(i 1).val, h1⟩ := by
    funext a
    match a with
    | ⟨0, _⟩ => exact Fin.ext (by show win0_12.index t 0 * win0_12.size 0 + 1 * (i 0).val = 512 * t.val + (i 0).val; omega)
    | ⟨1, _⟩ => exact Fin.ext (by show win0_12.index t 1 * win0_12.size 1 + 1 * (i 1).val = (i 1).val; omega)
  refine Eq.trans (congrArg z (?_ : _ = ix2 ⟨(i 0).val, h0⟩ ⟨(i 1).val, h1⟩)) (Eq.trans (hk ⟨(i 0).val, h0⟩ ⟨(i 1).val, h1⟩) (congrArg o ei).symm)
  funext a
  match a with
  | ⟨0, _⟩ => exact Fin.ext rfl
  | ⟨1, _⟩ => exact Fin.ext rfl

theorem cover12 (i : S10240x256.Idx) : ∃ t : Fin cfg0.N, (cfg0.win 12).flush t = true ∧ i ∈ ((cfg0.win 12).blk t).view.set := by
  have h0 : (i 0).val < 10240 := (i 0).isLt
  have h1 : (i 1).val < 256 := (i 1).isLt
  have hN : cfg0.N = 20 := N_0
  refine ⟨⟨(i 0).val / 512, by omega⟩, flush0_12 _, ?_⟩
  generalize ht : (⟨(i 0).val / 512, by omega⟩ : Fin cfg0.N) = t
  have hv : t.val = (i 0).val / 512 := by rw [← ht]
  have e := index12 t
  show i ∈ ((View.whole main_v61_3).slice (win0_12.rect t)).set
  rw [View.set_slice_whole, Rect.mem_set_unit]
  intro a
  match a with
  | ⟨0, _⟩ => show win0_12.index t 0 * win0_12.size 0 ≤ (i 0).val ∧ (i 0).val < win0_12.index t 0 * win0_12.size 0 + win0_12.xsize (grid0.coords t) 0; omega
  | ⟨1, _⟩ => show win0_12.index t 1 * win0_12.size 1 ≤ (i 1).val ∧ (i 1).val < win0_12.index t 1 * win0_12.size 1 + win0_12.xsize (grid0.coords t) 1; omega

abbrev result13 : FVec Ideal S10240x256 .f32 := values (tokens m c) (modulation m c) (gain m c) (weights m c)

theorem tile13 (t : Fin cfg0.N) (r : Fin 512) (j : Fin 256) : block13 (iblk m c 0 t) (iblk m c 1 t) (iblk m c 2 t) (iblk m c 3 t) (ix2 r j)
    = result13 m c (ix2 ⟨512 * t.val + r.val, by have := points t; omega⟩ j) := by
  exact congrFun (columns_eq m c t r) _

theorem flushed13 (t : Fin cfg0.N) : (dats m 0 c).flushed 13 t = (win0_13.blk t).view.read (Elt Ideal) (result13 m c) := by
  have ht := points t
  rw [Value.flushed13, out13_apply]
  have hk := tile13 m c t
  generalize block13 (iblk m c 0 t) (iblk m c 1 t) (iblk m c 2 t) (iblk m c 3 t) = z at hk ⊢
  generalize result13 m c = o at hk ⊢
  funext i
  have e := index13 t
  have h0 : (i 0).val < 512 := lt_of_lt_of_eq (i 0).isLt e.2.2.1
  have h1 : (i 1).val < 256 := lt_of_lt_of_eq (i 1).isLt e.2.2.2
  have ei : ((win0_13.blk t).view.emb i : S10240x256.Idx) = ix2 ⟨512 * t.val + (i 0).val, by omega⟩ ⟨(i 1).val, h1⟩ := by
    funext a
    match a with
    | ⟨0, _⟩ => exact Fin.ext (by show win0_13.index t 0 * win0_13.size 0 + 1 * (i 0).val = 512 * t.val + (i 0).val; omega)
    | ⟨1, _⟩ => exact Fin.ext (by show win0_13.index t 1 * win0_13.size 1 + 1 * (i 1).val = (i 1).val; omega)
  refine Eq.trans (congrArg z (?_ : _ = ix2 ⟨(i 0).val, h0⟩ ⟨(i 1).val, h1⟩)) (Eq.trans (hk ⟨(i 0).val, h0⟩ ⟨(i 1).val, h1⟩) (congrArg o ei).symm)
  funext a
  match a with
  | ⟨0, _⟩ => exact Fin.ext rfl
  | ⟨1, _⟩ => exact Fin.ext rfl

theorem cover13 (i : S10240x256.Idx) : ∃ t : Fin cfg0.N, (cfg0.win 13).flush t = true ∧ i ∈ ((cfg0.win 13).blk t).view.set := by
  have h0 : (i 0).val < 10240 := (i 0).isLt
  have h1 : (i 1).val < 256 := (i 1).isLt
  have hN : cfg0.N = 20 := N_0
  refine ⟨⟨(i 0).val / 512, by omega⟩, flush0_13 _, ?_⟩
  generalize ht : (⟨(i 0).val / 512, by omega⟩ : Fin cfg0.N) = t
  have hv : t.val = (i 0).val / 512 := by rw [← ht]
  have e := index13 t
  show i ∈ ((View.whole main_v61_4).slice (win0_13.rect t)).set
  rw [View.set_slice_whole, Rect.mem_set_unit]
  intro a
  match a with
  | ⟨0, _⟩ => show win0_13.index t 0 * win0_13.size 0 ≤ (i 0).val ∧ (i 0).val < win0_13.index t 0 * win0_13.size 0 + win0_13.xsize (grid0.coords t) 0; omega
  | ⟨1, _⟩ => show win0_13.index t 1 * win0_13.size 1 ≤ (i 1).val ∧ (i 1).val < win0_13.index t 1 * win0_13.size 1 + win0_13.xsize (grid0.coords t) 1; omega

abbrev result14 : FVec Ideal S10240x1024 .f32 := firstGate (tokens m c) (modulation m c) (gain m c) (weights m c)

theorem tile14 (t : Fin cfg0.N) (r : Fin 512) (j : Fin 1024) : block14 (iblk m c 0 t) (iblk m c 1 t) (iblk m c 2 t) (iblk m c 3 t) (ix2 r j)
    = result14 m c (ix2 ⟨512 * t.val + r.val, by have := points t; omega⟩ j) := by
  exact congrArg Ideal.logistic (congrFun (columns_eq m c t r) _)

theorem flushed14 (t : Fin cfg0.N) : (dats m 0 c).flushed 14 t = (win0_14.blk t).view.read (Elt Ideal) (result14 m c) := by
  have ht := points t
  rw [Value.flushed14, out14_apply]
  have hk := tile14 m c t
  generalize block14 (iblk m c 0 t) (iblk m c 1 t) (iblk m c 2 t) (iblk m c 3 t) = z at hk ⊢
  generalize result14 m c = o at hk ⊢
  funext i
  have e := index14 t
  have h0 : (i 0).val < 512 := lt_of_lt_of_eq (i 0).isLt e.2.2.1
  have h1 : (i 1).val < 1024 := lt_of_lt_of_eq (i 1).isLt e.2.2.2
  have ei : ((win0_14.blk t).view.emb i : S10240x1024.Idx) = ix2 ⟨512 * t.val + (i 0).val, by omega⟩ ⟨(i 1).val, h1⟩ := by
    funext a
    match a with
    | ⟨0, _⟩ => exact Fin.ext (by show win0_14.index t 0 * win0_14.size 0 + 1 * (i 0).val = 512 * t.val + (i 0).val; omega)
    | ⟨1, _⟩ => exact Fin.ext (by show win0_14.index t 1 * win0_14.size 1 + 1 * (i 1).val = (i 1).val; omega)
  refine Eq.trans (congrArg z (?_ : _ = ix2 ⟨(i 0).val, h0⟩ ⟨(i 1).val, h1⟩)) (Eq.trans (hk ⟨(i 0).val, h0⟩ ⟨(i 1).val, h1⟩) (congrArg o ei).symm)
  funext a
  match a with
  | ⟨0, _⟩ => exact Fin.ext rfl
  | ⟨1, _⟩ => exact Fin.ext rfl

theorem cover14 (i : S10240x1024.Idx) : ∃ t : Fin cfg0.N, (cfg0.win 14).flush t = true ∧ i ∈ ((cfg0.win 14).blk t).view.set := by
  have h0 : (i 0).val < 10240 := (i 0).isLt
  have h1 : (i 1).val < 1024 := (i 1).isLt
  have hN : cfg0.N = 20 := N_0
  refine ⟨⟨(i 0).val / 512, by omega⟩, flush0_14 _, ?_⟩
  generalize ht : (⟨(i 0).val / 512, by omega⟩ : Fin cfg0.N) = t
  have hv : t.val = (i 0).val / 512 := by rw [← ht]
  have e := index14 t
  show i ∈ ((View.whole main_v61_5).slice (win0_14.rect t)).set
  rw [View.set_slice_whole, Rect.mem_set_unit]
  intro a
  match a with
  | ⟨0, _⟩ => show win0_14.index t 0 * win0_14.size 0 ≤ (i 0).val ∧ (i 0).val < win0_14.index t 0 * win0_14.size 0 + win0_14.xsize (grid0.coords t) 0; omega
  | ⟨1, _⟩ => show win0_14.index t 1 * win0_14.size 1 ≤ (i 1).val ∧ (i 1).val < win0_14.index t 1 * win0_14.size 1 + win0_14.xsize (grid0.coords t) 1; omega

abbrev result15 : FVec Ideal S10240x1024 .f32 := secondGate (tokens m c) (modulation m c) (gain m c) (weights m c)

theorem tile15 (t : Fin cfg0.N) (r : Fin 512) (j : Fin 1024) : block15 (iblk m c 0 t) (iblk m c 1 t) (iblk m c 2 t) (iblk m c 3 t) (ix2 r j)
    = result15 m c (ix2 ⟨512 * t.val + r.val, by have := points t; omega⟩ j) := by
  exact congrArg Ideal.logistic (congrFun (columns_eq m c t r) _)

theorem flushed15 (t : Fin cfg0.N) : (dats m 0 c).flushed 15 t = (win0_15.blk t).view.read (Elt Ideal) (result15 m c) := by
  have ht := points t
  rw [Value.flushed15, out15_apply]
  have hk := tile15 m c t
  generalize block15 (iblk m c 0 t) (iblk m c 1 t) (iblk m c 2 t) (iblk m c 3 t) = z at hk ⊢
  generalize result15 m c = o at hk ⊢
  funext i
  have e := index15 t
  have h0 : (i 0).val < 512 := lt_of_lt_of_eq (i 0).isLt e.2.2.1
  have h1 : (i 1).val < 1024 := lt_of_lt_of_eq (i 1).isLt e.2.2.2
  have ei : ((win0_15.blk t).view.emb i : S10240x1024.Idx) = ix2 ⟨512 * t.val + (i 0).val, by omega⟩ ⟨(i 1).val, h1⟩ := by
    funext a
    match a with
    | ⟨0, _⟩ => exact Fin.ext (by show win0_15.index t 0 * win0_15.size 0 + 1 * (i 0).val = 512 * t.val + (i 0).val; omega)
    | ⟨1, _⟩ => exact Fin.ext (by show win0_15.index t 1 * win0_15.size 1 + 1 * (i 1).val = (i 1).val; omega)
  refine Eq.trans (congrArg z (?_ : _ = ix2 ⟨(i 0).val, h0⟩ ⟨(i 1).val, h1⟩)) (Eq.trans (hk ⟨(i 0).val, h0⟩ ⟨(i 1).val, h1⟩) (congrArg o ei).symm)
  funext a
  match a with
  | ⟨0, _⟩ => exact Fin.ext rfl
  | ⟨1, _⟩ => exact Fin.ext rfl

theorem cover15 (i : S10240x1024.Idx) : ∃ t : Fin cfg0.N, (cfg0.win 15).flush t = true ∧ i ∈ ((cfg0.win 15).blk t).view.set := by
  have h0 : (i 0).val < 10240 := (i 0).isLt
  have h1 : (i 1).val < 1024 := (i 1).isLt
  have hN : cfg0.N = 20 := N_0
  refine ⟨⟨(i 0).val / 512, by omega⟩, flush0_15 _, ?_⟩
  generalize ht : (⟨(i 0).val / 512, by omega⟩ : Fin cfg0.N) = t
  have hv : t.val = (i 0).val / 512 := by rw [← ht]
  have e := index15 t
  show i ∈ ((View.whole main_v61_6).slice (win0_15.rect t)).set
  rw [View.set_slice_whole, Rect.mem_set_unit]
  intro a
  match a with
  | ⟨0, _⟩ => show win0_15.index t 0 * win0_15.size 0 ≤ (i 0).val ∧ (i 0).val < win0_15.index t 0 * win0_15.size 0 + win0_15.xsize (grid0.coords t) 0; omega
  | ⟨1, _⟩ => show win0_15.index t 1 * win0_15.size 1 ≤ (i 1).val ∧ (i 1).val < win0_15.index t 1 * win0_15.size 1 + win0_15.xsize (grid0.coords t) 1; omega

/-- The run: the five results, the arguments unchanged. -/
theorem run : θ_run defs (onTc (τ := τ) (main (F := Ideal))) ⟨m, fun _ => 0, ρ⟩ fun r => ∀ c : Dev nD,
      r.2.mem ((c : Thread nD τ).loc main_v61_0) = result9 m c
      ∧ r.2.mem ((c : Thread nD τ).loc main_v61_3) = result12 m c
      ∧ r.2.mem ((c : Thread nD τ).loc main_v61_4) = result13 m c
      ∧ r.2.mem ((c : Thread nD τ).loc main_v61_5) = result14 m c
      ∧ r.2.mem ((c : Thread nD τ).loc main_v61_6) = result15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((dats m 0 c).arrAt_eq_of_cover 9 (result9 m c) (fun t _ => flushed9 m c t) cover9),
      (h c).2.2.2.1.trans ((dats m 0 c).arrAt_eq_of_cover 12 (result12 m c) (fun t _ => flushed12 m c t) cover12),
      (h c).2.2.2.2.1.trans ((dats m 0 c).arrAt_eq_of_cover 13 (result13 m c) (fun t _ => flushed13 m c t) cover13),
      (h c).2.2.2.2.2.1.trans ((dats m 0 c).arrAt_eq_of_cover 14 (result14 m c) (fun t _ => flushed14 m c t) cover14),
      (h c).2.2.2.2.2.2.1.trans ((dats m 0 c).arrAt_eq_of_cover 15 (result15 m c) (fun t _ => flushed15 m c t) cover15),
      (h c).2.2.2.2.2.2.2⟩)
    (Value.run_blocks m ρ)

end Cert.Projection

end
-- ==== Proof.Projection.Reference.lean ====
/- The reference's input projection, stage by stage. -/
module

public import proofs.«01_k».proof.Proof.Projection.Spec
public import proofs.«01_k».proof.Proof.Gen.Reference3Ideal.Read

@[expose] public section

set_option maxRecDepth 16384

noncomputable section

namespace Cert.Projection.Reference

open Idealize.ShloMosaic Idealize.ShloMosaic.TcCoe Idealize.SL.Sem Cert.Reference3Ideal Cert.Reference3Ideal.Gen Cert.Reference3Ideal.Read Cert.Layer Cert.Projection

variable (x0 : FVec Ideal S10240x1024 .f32) (x1 : FVec Ideal S3x6x1024 .f32) (x2 : FVec Ideal S1024 .f32) (x3 : FVec Ideal S1024x4096 .f32)
  (x5 : FVec Ideal S64 .f32)

theorem scale_apply (t : Fin 10240) (j : Fin 1024) : val_main_v21 (F := Ideal) x1 (ix2 t j) = x1 (ix3 (modRow t) 1 j) :=
  spread_apply x1 1 _ _ _ _ _ _ _ _ _ t j

theorem shift_apply (t : Fin 10240) (j : Fin 1024) : val_main_v33 (F := Ideal) x1 (ix2 t j) = x1 (ix3 (modRow t) 0 j) :=
  spread_apply x1 0 _ _ _ _ _ _ _ _ _ t j

theorem normed_apply (t : Fin 10240) (k : Fin 1024) : val_main_v12 (F := Ideal) x0 x2 (ix2 t k)
    = normed width (fun j => x0 (ix2 t j)) (fun j => x2 (ix1 j)) k := by
  pointwise [val_main_v0, val_main_v1, val_main_v2, val_main_v3, val_main_v4, val_main_v5, val_main_v6, val_main_v7, val_main_v8, val_main_v9, val_main_v10, val_main_v11, val_main_v12, val_main_cst, val_main_cst_0, val_main_cst_1]
  rfl

theorem hidden_apply (t : Fin 10240) (k : Fin 1024) : val_main_v34 (F := Ideal) x0 x1 x2 (ix2 t k)
    = hidden (fun l => x0 (ix2 t l)) (fun l => x2 (ix1 l)) (fun l => x1 (ix3 (modRow t) 1 l)) (fun l => x1 (ix3 (modRow t) 0 l)) k := by
  rw [val_main_v34_apply, val_main_v24_apply, val_main_v23_apply, normed_apply, shift_apply, scale_apply, val_main_v22_apply]
  show _ * (Ideal.ofBits .f32 0x3F800000#32 + _) + _ = _
  rw [Ideal.ofBits_one_f32]
  rfl

theorem columns_apply (t : Fin 10240) (f : Fin 4096) : val_main_v35 (F := Ideal) x0 x1 x2 x3 (ix2 t f) = columns x0 x1 x2 x3 t f := by
  pointwise [val_main_v35]
  exact Finset.sum_congr rfl fun k _ => congrArg (· * _) (hidden_apply x0 x1 x2 t k)

theorem inner_eq : val_main_v36 (F := Ideal) x0 x1 x2 x3 = inner x0 x1 x2 x3 := by
  funext i
  obtain ⟨t, j, rfl⟩ : ∃ (t : Fin 10240) (j : Fin 512), i = ix2 t j := ⟨i 0, i 1, eq_ix2 i⟩
  refine Eq.trans ?_ (columns_apply x0 x1 x2 x3 t ⟨j.val, by omega⟩)
  pointwise [val_main_v36]

theorem values_eq : val_main_v39 (F := Ideal) x0 x1 x2 x3 = values x0 x1 x2 x3 := by
  funext i
  obtain ⟨t, j, rfl⟩ : ∃ (t : Fin 10240) (j : Fin 256), i = ix2 t j := ⟨i 0, i 1, eq_ix2 i⟩
  refine Eq.trans ?_ (columns_apply x0 x1 x2 x3 t ⟨1792 + j.val, by omega⟩)
  pointwise [val_main_v39]

theorem firstGate_eq : val_main_v62 (F := Ideal) x0 x1 x2 x3 = firstGate x0 x1 x2 x3 := by
  funext i
  obtain ⟨t, j, rfl⟩ : ∃ (t : Fin 10240) (j : Fin 1024), i = ix2 t j := ⟨i 0, i 1, eq_ix2 i⟩
  refine Eq.trans ?_ (congrArg Ideal.logistic (columns_apply x0 x1 x2 x3 t ⟨2048 + j.val, by omega⟩))
  pointwise [val_main_v40, val_main_v57, val_main_v58, val_main_v59, val_main_v60, val_main_v61, val_main_v62, val_main_cst_6, val_main_cst_7]
  rfl

theorem secondGate_eq : val_main_v68 (F := Ideal) x0 x1 x2 x3 = secondGate x0 x1 x2 x3 := by
  funext i
  obtain ⟨t, j, rfl⟩ : ∃ (t : Fin 10240) (j : Fin 1024), i = ix2 t j := ⟨i 0, i 1, eq_ix2 i⟩
  refine Eq.trans ?_ (congrArg Ideal.logistic (columns_apply x0 x1 x2 x3 t ⟨3072 + j.val, by omega⟩))
  pointwise [val_main_v41, val_main_v63, val_main_v64, val_main_v65, val_main_v66, val_main_v67, val_main_v68, val_main_cst_8, val_main_cst_9]
  rfl

theorem key_apply (t : Fin 10240) (a : Fin 4) (e : Fin 64) : val_main_v55 (F := Ideal) x0 x1 x2 x3 x5 (ix3 t a e)
    = key (columns x0 x1 x2 x3 t) (fun e => x5 (ix1 e)) a e := by
  have h : ∀ e : Fin 64, val_main_v42 (F := Ideal) x0 x1 x2 x3 (ix3 t a e) = columns x0 x1 x2 x3 t ⟨1536 + 64 * a.val + e.val, by omega⟩ := fun e => by
    pointwise [val_main_v42, val_main_v38]
    rw [columns_apply]
    exact congrArg _ (Fin.ext (by show 1536 + (a.val * 64 + e.val) = 1536 + 64 * a.val + e.val; omega))
  pointwise [val_main_v43, val_main_v44, val_main_v45, val_main_v46, val_main_v47, val_main_v48, val_main_v49, val_main_v50, val_main_v51, val_main_v52, val_main_v53, val_main_v54, val_main_v55, val_main_cst_3, val_main_cst_4, val_main_cst_5]
  simp only [h]
  rfl

theorem keys_eq : val_main_v56 (F := Ideal) x0 x1 x2 x3 x5 = keys x0 x1 x2 x3 x5 := by
  funext i
  obtain ⟨t, j, rfl⟩ : ∃ (t : Fin 10240) (j : Fin 256), i = ix2 t j := ⟨i 0, i 1, eq_ix2 i⟩
  refine Eq.trans ?_ (key_apply x0 x1 x2 x3 x5 t ⟨j.val / 64, by omega⟩ ⟨j.val % 64, by omega⟩)
  pointwise [val_main_v56]

end Cert.Projection.Reference

end
-- ==== Proof.Projection.Claims.lean ====
/- The claims about the input projection. -/
module

public import proofs.«01_k».proof.Defs
public import proofs.«01_k».proof.Proof.Projection.Value
public import proofs.«01_k».proof.Proof.Projection.Reference
public import proofs.«01_k».proof.Proof.Gen.Kernel3.Frame
public import proofs.«01_k».proof.Proof.Gen.Reference3Ideal.Run

@[expose] public section

noncomputable section

namespace Cert.Projection.Claims

open Idealize.ShloMosaic Idealize.ShloMosaic.TcCoe Idealize.SL.Sem

theorem frame : Cert.quiescent_Kernel3 := fun m ρ _ => Cert.Kernel3.Gen.frame m ρ

theorem frame_ideal : Cert.quiescent_Kernel3Ideal := fun m ρ _ => Cert.Kernel3Ideal.Gen.frame m ρ

/-- The reference declares no semaphore, so its counters are zero at the end. -/
theorem frame_reference : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The kernel's five results are the reference's. -/
theorem algebraic : Cert.algebraic_Kernel3Ideal_Reference3Ideal := fun m ρ m' ρ' _ hag =>
  ⟨fun c => result9 m c, fun c => result12 m c, fun c => result13 m c, fun c => result14 m c, fun c => result15 m c, run m ρ,
    (θ_run Cert.Reference3Ideal.defs _ _).mono (fun _ h c => ⟨
      (h c).1.trans ((Cert.Reference3Ideal.Read.val_main_v36_eq _ _ _ _).trans ((Reference.inner_eq _ _ _ _).trans (by
        show inner (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = result9 m c
        rw [(hag c).1, (hag c).2.1, (hag c).2.2.1, (hag c).2.2.2.1]))),
      (h c).2.1.trans ((Cert.Reference3Ideal.Read.val_main_v56_eq m' c).trans ((Reference.keys_eq _ _ _ _ _).trans (by
        show keys (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg5)) = result12 m c
        rw [(hag c).1, (hag c).2.1, (hag c).2.2.1, (hag c).2.2.2.1, (hag c).2.2.2.2.2]))),
      (h c).2.2.1.trans ((Cert.Reference3Ideal.Read.val_main_v39_eq _ _ _ _).trans ((Reference.values_eq _ _ _ _).trans (by
        show values (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = result13 m c
        rw [(hag c).1, (hag c).2.1, (hag c).2.2.1, (hag c).2.2.2.1]))),
      (h c).2.2.2.1.trans ((Cert.Reference3Ideal.Read.val_main_v62_eq _ _ _ _).trans ((Reference.firstGate_eq _ _ _ _).trans (by
        show firstGate (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = result14 m c
        rw [(hag c).1, (hag c).2.1, (hag c).2.2.1, (hag c).2.2.2.1]))),
      (h c).2.2.2.2.1.trans ((Cert.Reference3Ideal.Read.val_main_v68_eq _ _ _ _).trans ((Reference.secondGate_eq _ _ _ _).trans (by
        show secondGate (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) = result15 m c
        rw [(hag c).1, (hag c).2.1, (hag c).2.2.1, (hag c).2.2.2.1]))),
      (h c).2.2.2.2.2⟩)
      (Cert.Reference3Ideal.Value.run (F := Ideal) m' ρ')⟩

end Cert.Projection.Claims

end
-- ==== Proof.Modulation.Spec.lean ====
/- What the modulation gives, index by index, as a function of its arguments. -/
module

public import proofs.«01_k».proof.Proof.Layer

@[expose] public section

noncomputable section

namespace Cert.Modulation

open Idealize.ShloMosaic Cert.Layer

variable (cs : FVec Ideal ⟨2, ![2, 1024]⟩ .f32) (ctx : FVec Ideal ⟨1, ![1024]⟩ .f32) (w : FVec Ideal ⟨3, ![2, 1024, 6144]⟩ .f32)
  (b : FVec Ideal ⟨2, ![2, 6144]⟩ .f32)

/-- The eight condition rows: the first stream's, the second stream's two, and five of zeros. -/
def row (r : Fin 8) (k : Fin 1024) : EReal :=
  if r.val < 1 then ctx (ix1 k) else if h : r.val - 1 < 2 then cs (ix2 ⟨r.val - 1, h⟩ k) else 0

/-- One entry of a layer's modulation, the condition `x` through `x * logistic x` first. -/
def entry (x w : Fin 1024 → EReal) (b : EReal) : EReal := (∑ k, x k * Ideal.logistic (x k) * w k) + b

/-- The modulation of every layer. -/
def result : FVec Ideal ⟨3, ![2, 8, 6144]⟩ .f32 := fun i =>
  entry (row cs ctx (i 1)) (fun k => w (ix3 (i 0) k (i 2))) (b (ix2 (i 0) (i 2)))

theorem result_apply (l : Fin 2) (r : Fin 8) (f : Fin 6144) :
    result cs ctx w b (ix3 l r f) = entry (row cs ctx r) (fun k => w (ix3 l k f)) (b (ix2 l f)) := rfl

end Cert.Modulation

end
-- ==== Proof.Modulation.Tile.lean ====
/- What the modulation stores in a tile of 1536 columns, and the condition rows it is given. -/
module

public import proofs.«01_k».proof.Proof.Gen.Kernel4Ideal.Frame
public import proofs.«01_k».proof.Proof.Modulation.Spec
public import Idealize.ShloMosaic.Lib.Pipeline.ValueKit
public import Idealize.ShloMosaic.Lib.Routing.OpsSet

@[expose] public section

set_option maxRecDepth 16384

noncomputable section

namespace Cert.Modulation

open Idealize.ShloMosaic Cert.Kernel4Ideal Cert.Kernel4Ideal.Gen Cert.Layer

/-! ## The condition rows -/

/-- The row that the first update sets. -/
theorem lands_first (idx : IVec S1 32) (hi : idx (ix1 0) = 0#32) (j k : Fin 1024) (r : Fin 8) :
    scatter_S8x1024_S1_S1024_0_0_0_0.resultIdx? (ix1 j) idx = some (ix2 r k) ↔ r.val = 0 ∧ j = k := by
  have h0 : scatter_S8x1024_S1_S1024_0_0_0_0.start (ix1 j) idx 0 = 0 := by
    have e : scatter_S8x1024_S1_S1024_0_0_0_0.start (ix1 j) idx 0 = (idx (ix1 0)).toInt := by
      unfold ScatterDims.start
      rw [dif_pos (by decide)]
      exact congrArg (fun q => (idx q).toInt) (funext fun a => match a with
        | ⟨0, _⟩ => Subsingleton.elim (α := Fin 1) _ _)
    rw [e, hi]
    rfl
  have h1 : scatter_S8x1024_S1_S1024_0_0_0_0.start (ix1 j) idx 1 = 0 := rfl
  have w0 : scatter_S8x1024_S1_S1024_0_0_0_0.window (ix1 j) 0 = 0 := rfl
  have w1 : scatter_S8x1024_S1_S1024_0_0_0_0.window (ix1 j) 1 = j.val := rfl
  refine (Routing.resultIdx?_ix2 _ _ _ r k).trans ?_
  rw [h0, h1, w0, w1, Fin.ext_iff]
  omega

/-- The rows that the second update sets. -/
theorem lands_second (idx : IVec S1 32) (hi : idx (ix1 0) = 1#32) (p : Fin 2) (j k : Fin 1024) (r : Fin 8) :
    scatter_S8x1024_S1_S2x1024_01_n_0_0.resultIdx? (ix2 p j) idx = some (ix2 r k) ↔ r.val = 1 + p.val ∧ j = k := by
  have h0 : scatter_S8x1024_S1_S2x1024_01_n_0_0.start (ix2 p j) idx 0 = 1 := by
    have e : scatter_S8x1024_S1_S2x1024_01_n_0_0.start (ix2 p j) idx 0 = (idx (ix1 0)).toInt := by
      unfold ScatterDims.start
      rw [dif_pos (by decide)]
      exact congrArg (fun q => (idx q).toInt) (funext fun a => match a with
        | ⟨0, _⟩ => Subsingleton.elim (α := Fin 1) _ _)
    rw [e, hi]
    rfl
  have h1 : scatter_S8x1024_S1_S2x1024_01_n_0_0.start (ix2 p j) idx 1 = 0 := rfl
  have w0 : scatter_S8x1024_S1_S2x1024_01_n_0_0.window (ix2 p j) 0 = p.val := rfl
  have w1 : scatter_S8x1024_S1_S2x1024_01_n_0_0.window (ix2 p j) 1 = j.val := rfl
  refine (Routing.resultIdx?_ix2 _ _ _ r k).trans ?_
  rw [h0, h1, w0, w1, Fin.ext_iff]
  omega

/-- The condition rows, as the program sets them. -/
def rows (cs : FVec Ideal S2x1024 .f32) (ctx : FVec Ideal S1024 .f32) : FVec Ideal S8x1024 .f32 :=
  Host.scatter scatter_S8x1024_S1_S2x1024_01_n_0_0 (fun _ b => b)
    (Host.scatter scatter_S8x1024_S1_S1024_0_0_0_0 (fun _ b => b)
      (broadcastInDim S8x1024 ![] bcast_S_S8x1024 (constant S_ .f32 0x00000000#32 : FVec Ideal S_ .f32))
      (broadcastInDim S1 ![] bcast_S_S1 (constantI S_ 32 0#32)) ctx)
    (broadcastInDim S1 ![] bcast_S_S1 (constantI S_ 32 1#32)) cs

theorem rows_apply (cs : FVec Ideal S2x1024 .f32) (ctx : FVec Ideal S1024 .f32) (r : Fin 8) (k : Fin 1024) :
    rows cs ctx (ix2 r k) = row cs ctx r k := by
  have hr := r.isLt
  unfold rows row
  by_cases h0 : r.val < 1
  · rw [if_pos h0, Routing.scatter_set_miss _ _ _ _ _ fun q hq => ?_]
    · refine Routing.scatter_set_hit _ _ _ _ _ _ (fun q hq => ?_) (ix1 k) ((lands_first _ rfl k k r).2 ⟨by omega, rfl⟩)
      obtain ⟨j, rfl⟩ : ∃ j : Fin 1024, q = ix1 j := ⟨q 0, eq_ix1 q⟩
      rw [((lands_first _ rfl j k r).1 hq).2]
    · obtain ⟨p, j, rfl⟩ : ∃ (p : Fin 2) (j : Fin 1024), q = ix2 p j := ⟨q 0, q 1, eq_ix2 q⟩
      have := ((lands_second _ rfl p j k r).1 hq).1
      omega
  · rw [if_neg h0]
    by_cases h1 : r.val - 1 < 2
    · rw [dif_pos h1]
      refine Routing.scatter_set_hit _ _ _ _ _ _ (fun q hq => ?_) (ix2 ⟨r.val - 1, h1⟩ k)
        ((lands_second _ rfl ⟨r.val - 1, h1⟩ k k r).2 ⟨by show r.val = 1 + (r.val - 1); omega, rfl⟩)
      obtain ⟨p, j, rfl⟩ : ∃ (p : Fin 2) (j : Fin 1024), q = ix2 p j := ⟨q 0, q 1, eq_ix2 q⟩
      have e := (lands_second _ rfl p j k r).1 hq
      rw [e.2]
      exact congrArg (fun z => cs (ix2 z k)) (Fin.ext (by show p.val = r.val - 1; omega))
    · rw [dif_neg h1, Routing.scatter_set_miss _ _ _ _ _ fun q hq => ?_, Routing.scatter_set_miss _ _ _ _ _ fun q hq => ?_]
      · exact Ideal.ofBits_zero_f32
      · obtain ⟨j, rfl⟩ : ∃ j : Fin 1024, q = ix1 j := ⟨q 0, eq_ix1 q⟩
        have := ((lands_first _ rfl j k r).1 hq).1
        omega
      · obtain ⟨p, j, rfl⟩ : ∃ (p : Fin 2) (j : Fin 1024), q = ix2 p j := ⟨q 0, q 1, eq_ix2 q⟩
        have := ((lands_second _ rfl p j k r).1 hq).1
        have := p.isLt
        omega

/-! ## The tile -/

variable (x0 : Vec Ideal S8x1024 .f32) (x1 : Vec Ideal S1x1024x1536 .f32) (x2 : Vec Ideal S1x1x1536 .f32)

/-- The tile the body leaves. -/
def block : Vec Ideal S1x8x1536 .f32 := fun i =>
  entry (fun k => x0 (ix2 (i 1) k)) (fun k => x1 (ix3 0 k (i 2))) (x2 (ix3 0 0 (i 2)))

theorem block_apply (r : Fin 8) (f : Fin 1536) :
    block x0 x1 x2 (ix3 0 r f) = entry (fun k => x0 (ix2 r k)) (fun k => x1 (ix3 0 k f)) (x2 (ix3 0 0 f)) := rfl

theorem pay1_apply (u : Fin 1) (r : Fin 8) (f : Fin 1536) : k0_pay1 (F := Ideal) x0 x1 x2 (ix3 u r f) = block x0 x1 x2 (ix3 u r f) := by
  obtain rfl : u = 0 := Subsingleton.elim _ _
  rw [block_apply]
  pointwise [k0_pay1]
  simp only [sigmoid_kernel]
  rfl

theorem ld0 (x : Vec Ideal S8x1024 .f32) : View.ld x r0_0 = x := View.ld_unit_lit _ x (by decide)
theorem ld1 (x : Vec Ideal S1x1024x1536 .f32) : View.ld x r0_1 = x := View.ld_unit_lit _ x (by decide)
theorem ld2 (x : Vec Ideal S1x1x1536 .f32) : View.ld x r0_2 = x := View.ld_unit_lit _ x (by decide)

theorem emb_out (u : Fin 1) (r : Fin 8) (f : Fin 1536) : r0_3.emb (ix3 u r f) = ix3 u r f := funext fun a => Fin.ext (by
  match a with
  | ⟨0, _⟩ => show 0 + 1 * u.val = u.val; omega
  | ⟨1, _⟩ => show 0 + 1 * r.val = r.val; omega
  | ⟨2, _⟩ => show 0 + 1 * f.val = f.val; omega)

theorem out_apply : out0_3 x0 x1 x2 = block x0 x1 x2 := by
  funext q
  refine View.canon_apply_of_pieces (Val := Elt Ideal) (block x0 x1 x2) _ (fun p hp => ?_) q (cover0_3 _ q)
  simp only [List.mem_cons, List.not_mem_nil, or_false] at hp
  rcases hp with rfl
  intro e
  idx_vars e
  rw [emb_out]
  show k0_pay1 _ _ _ (ix3 e0 e1 e2) = _
  rw [ld0, ld1, ld2]
  exact pay1_apply x0 x1 x2 e0 e1 e2

end Cert.Modulation

end
-- ==== Proof.Modulation.Value.lean ====
/- The modulation: what its windows read, what it leaves, and the run. -/
module

public import proofs.«01_k».proof.Proof.Modulation.Tile
public import proofs.«01_k».proof.Proof.Gen.Kernel4Ideal.Value

@[expose] public section

set_option maxRecDepth 16384

noncomputable section

namespace Cert.Modulation

open Idealize.ShloMosaic Idealize.ShloMosaic.TcCoe Idealize.SL.Sem Cert.Kernel4Ideal Cert.Kernel4Ideal.Gen Cert.Layer
open Idealize.ShloMosaic.Pipeline (Dat)

variable (m : (ℓ : Loc nD τ sig) → Buf (Elt Ideal) ℓ) (ρ : Dev nD → PrngReg)

/-! ## The arguments -/

/-- The second stream's conditions. -/
abbrev conds (c : Dev nD) : FVec Ideal S2x1024 .f32 := m ((c : Thread nD τ).loc main_arg0)
/-- The first stream's condition. -/
abbrev condFirst (c : Dev nD) : FVec Ideal S1024 .f32 := m ((c : Thread nD τ).loc main_arg1)
/-- The weights of the layers. -/
abbrev weights (c : Dev nD) : FVec Ideal S2x1024x6144 .f32 := m ((c : Thread nD τ).loc main_arg2)
/-- The biases of the layers. -/
abbrev biases (c : Dev nD) : FVec Ideal S2x6144 .f32 := m ((c : Thread nD τ).loc main_arg3)

/-! ## The arrays the windows read -/

theorem rows_eq (c : Dev nD) : (V m c main_v4 : Vec Ideal S8x1024 .f32) = rows (conds m c) (condFirst m c) := by
  show StableHlo.after hostOps0 _ _ = _
  after_results
  rfl

theorem bias_eq (c : Dev nD) : (V m c main_v5 : Vec Ideal S2x1x6144 .f32) = shapeCast S2x1x6144 (biases m c) shapeCasts_S2x6144_S2x1x6144 := by
  show StableHlo.after hostOps0 _ _ = _
  after_results
  rfl

theorem bias_apply (c : Dev nD) (l : Fin 2) (f : Fin 6144) : (V m c main_v5 : Vec Ideal S2x1x6144 .f32) (ix3 l 0 f) = biases m c (ix2 l f) := by
  rw [bias_eq]
  exact shapeCast_apply _ _ _ (ix2 l f) (by
    rw [Shape.rowMajor_val_two, Shape.rowMajor_val_three]
    show l.val * 6144 + f.val = (l.val * 1 + 0) * 6144 + f.val
    omega)

/-! ## The windows' blocks at an index -/

theorem points (t : Fin cfg0.N) : t.val < 8 := t.isLt

theorem index0 (t : Fin cfg0.N) : win0_0.index t 0 * win0_0.size 0 = 0 ∧ win0_0.index t 1 * win0_0.size 1 = 0 := by
  revert t
  decide +kernel

theorem index1 (t : Fin cfg0.N) : win0_1.index t 0 * win0_1.size 0 = t.val / 4 ∧ win0_1.index t 1 * win0_1.size 1 = 0
    ∧ win0_1.index t 2 * win0_1.size 2 = 1536 * (t.val % 4) := by
  revert t
  decide +kernel

theorem index2 (t : Fin cfg0.N) : win0_2.index t 0 * win0_2.size 0 = t.val / 4 ∧ win0_2.index t 1 * win0_2.size 1 = 0
    ∧ win0_2.index t 2 * win0_2.size 2 = 1536 * (t.val % 4) := by
  revert t
  decide +kernel

theorem index3 (t : Fin cfg0.N) : win0_3.index t 0 * win0_3.size 0 = t.val / 4 ∧ win0_3.index t 1 * win0_3.size 1 = 0
    ∧ win0_3.index t 2 * win0_3.size 2 = 1536 * (t.val % 4) ∧ win0_3.xsize (grid0.coords t) 0 = 1 ∧ win0_3.xsize (grid0.coords t) 1 = 8
    ∧ win0_3.xsize (grid0.coords t) 2 = 1536 := by
  revert t
  decide +kernel

/-- The layer of point `t`. -/
def layer (t : Fin cfg0.N) : Fin 2 := ⟨t.val / 4, by have := points t; omega⟩

/-- The column that column `f` of point `t`'s tile is. -/
def col (t : Fin cfg0.N) (f : Fin 1536) : Fin 6144 := ⟨1536 * (t.val % 4) + f.val, by omega⟩

theorem block0 (c : Dev nD) (t : Fin cfg0.N) (r : Fin 8) (k : Fin 1024) :
    (iblk m c 0 t : Vec Ideal S8x1024 .f32) (ix2 r k) = row (conds m c) (condFirst m c) r k := by
  refine Eq.trans (congrArg (V m c main_v4 : Vec Ideal S8x1024 .f32) (funext fun a => Fin.ext ?_))
    ((congrFun (rows_eq m c) (ix2 r k)).trans (rows_apply _ _ r k))
  have e := index0 t
  match a with
  | ⟨0, _⟩ => show win0_0.index t 0 * win0_0.size 0 + 1 * r.val = r.val; omega
  | ⟨1, _⟩ => show win0_0.index t 1 * win0_0.size 1 + 1 * k.val = k.val; omega

theorem block1 (c : Dev nD) (t : Fin cfg0.N) (k : Fin 1024) (f : Fin 1536) :
    (iblk m c 1 t : Vec Ideal S1x1024x1536 .f32) (ix3 0 k f) = weights m c (ix3 (layer t) k (col t f)) := by
  refine Eq.trans (congrArg (V m c main_arg2 : Vec Ideal S2x1024x6144 .f32) (funext fun a => Fin.ext ?_)) (congrFun (V_main_arg2 m c) _)
  have e := index1 t
  match a with
  | ⟨0, _⟩ => show win0_1.index t 0 * win0_1.size 0 + 1 * 0 = t.val / 4; omega
  | ⟨1, _⟩ => show win0_1.index t 1 * win0_1.size 1 + 1 * k.val = k.val; omega
  | ⟨2, _⟩ => show win0_1.index t 2 * win0_1.size 2 + 1 * f.val = 1536 * (t.val % 4) + f.val; omega

theorem block2 (c : Dev nD) (t : Fin cfg0.N) (f : Fin 1536) :
    (iblk m c 2 t : Vec Ideal S1x1x1536 .f32) (ix3 0 0 f) = biases m c (ix2 (layer t) (col t f)) := by
  refine Eq.trans (congrArg (V m c main_v5 : Vec Ideal S2x1x6144 .f32) (funext fun a => Fin.ext ?_)) (bias_apply m c (layer t) (col t f))
  have e := index2 t
  match a with
  | ⟨0, _⟩ => show win0_2.index t 0 * win0_2.size 0 + 1 * 0 = t.val / 4; omega
  | ⟨1, _⟩ => show win0_2.index t 1 * win0_2.size 1 + 1 * 0 = 0; omega
  | ⟨2, _⟩ => show win0_2.index t 2 * win0_2.size 2 + 1 * f.val = 1536 * (t.val % 4) + f.val; omega

/-! ## What a point writes back -/

/-- The modulation, of the arguments on device `c`. -/
abbrev out (c : Dev nD) : FVec Ideal S2x8x6144 .f32 := result (conds m c) (condFirst m c) (weights m c) (biases m c)

theorem block_eq (c : Dev nD) (t : Fin cfg0.N) (r : Fin 8) (f : Fin 1536) :
    block (iblk m c 0 t) (iblk m c 1 t) (iblk m c 2 t) (ix3 0 r f) = out m c (ix3 (layer t) r (col t f)) := by
  refine Eq.trans ?_ (result_apply _ _ _ _ _ _ _).symm
  rw [block_apply, block2]
  simp only [block0, block1]

theorem flushed_eq (c : Dev nD) (t : Fin cfg0.N) : (dats m 0 c).flushed 3 t = (win0_3.blk t).view.read (Elt Ideal) (out m c) := by
  rw [Value.flushed3, out_apply]
  funext i
  have e := index3 t
  have h0 : (i 0).val < 1 := lt_of_lt_of_eq (i 0).isLt e.2.2.2.1
  have h1 : (i 1).val < 8 := lt_of_lt_of_eq (i 1).isLt e.2.2.2.2.1
  have h2 : (i 2).val < 1536 := lt_of_lt_of_eq (i 2).isLt e.2.2.2.2.2
  have ei : ((win0_3.blk t).view.emb i : S2x8x6144.Idx) = ix3 (layer t) ⟨(i 1).val, h1⟩ (col t ⟨(i 2).val, h2⟩) := by
    funext a
    match a with
    | ⟨0, _⟩ => exact Fin.ext (by show win0_3.index t 0 * win0_3.size 0 + 1 * (i 0).val = t.val / 4; omega)
    | ⟨1, _⟩ => exact Fin.ext (by show win0_3.index t 1 * win0_3.size 1 + 1 * (i 1).val = (i 1).val; omega)
    | ⟨2, _⟩ => exact Fin.ext (by show win0_3.index t 2 * win0_3.size 2 + 1 * (i 2).val = 1536 * (t.val % 4) + (i 2).val; omega)
  exact Eq.trans (block_eq m c t ⟨(i 1).val, h1⟩ ⟨(i 2).val, h2⟩) (congrArg (out m c) ei).symm

theorem cover (i : S2x8x6144.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 6144 := (i 2).isLt
  have hN : cfg0.N = 8 := N_0
  refine ⟨⟨4 * (i 0).val + (i 2).val / 1536, by omega⟩, flush0_3 _, ?_⟩
  generalize ht : (⟨4 * (i 0).val + (i 2).val / 1536, by omega⟩ : Fin cfg0.N) = t
  have hv : t.val = 4 * (i 0).val + (i 2).val / 1536 := by rw [← ht]
  have e := index3 t
  show i ∈ ((View.whole main_v6).slice (win0_3.rect t)).set
  rw [View.set_slice_whole, Rect.mem_set_unit]
  intro a
  match a with
  | ⟨0, _⟩ => show win0_3.index t 0 * win0_3.size 0 ≤ (i 0).val ∧ (i 0).val < win0_3.index t 0 * win0_3.size 0 + win0_3.xsize (grid0.coords t) 0; omega
  | ⟨1, _⟩ => show win0_3.index t 1 * win0_3.size 1 ≤ (i 1).val ∧ (i 1).val < win0_3.index t 1 * win0_3.size 1 + win0_3.xsize (grid0.coords t) 1; omega
  | ⟨2, _⟩ => show win0_3.index t 2 * win0_3.size 2 ≤ (i 2).val ∧ (i 2).val < win0_3.index t 2 * win0_3.size 2 + win0_3.xsize (grid0.coords t) 2; omega

/-- The run: the result array at the modulation, the arguments unchanged. -/
theorem run : θ_run defs (onTc (τ := τ) (main (F := Ideal))) ⟨m, fun _ => 0, ρ⟩ fun r => ∀ c : Dev nD,
      r.2.mem ((c : Thread nD τ).loc main_v6) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 3 (out m c) (fun t _ => flushed_eq m c t) cover), (h c).2⟩)
    (Value.run_blocks m ρ)

end Cert.Modulation

end
-- ==== Proof.Modulation.Reference.lean ====
/- The reference's modulation at an index. -/
module

public import proofs.«01_k».proof.Proof.Modulation.Spec
public import proofs.«01_k».proof.Proof.Gen.Reference4Ideal.Read

@[expose] public section

set_option maxRecDepth 16384

noncomputable section

namespace Cert.Modulation.Reference

open Idealize.ShloMosaic Idealize.ShloMosaic.TcCoe Idealize.SL.Sem Cert.Reference4Ideal Cert.Reference4Ideal.Gen Cert.Reference4Ideal.Read Cert.Layer Cert.Modulation

variable (x0 : FVec Ideal S2x1024 .f32) (x1 : FVec Ideal S1024 .f32) (x2 : FVec Ideal S2x1024x6144 .f32) (x3 : FVec Ideal S2x6144 .f32)

theorem row_apply (r : Fin 8) (k : Fin 1024) : val_main_v2 (F := Ideal) x0 x1 (ix2 r k) = row x0 x1 r k := by
  unfold val_main_v2 val_main_v0 val_main_v1 val_main_cst row
  pointwise
  simp only [dite_eq_ite]

theorem act_apply (r : Fin 8) (k : Fin 1024) :
    val_main_v3 (F := Ideal) x0 x1 (ix2 r k) = row x0 x1 r k * Ideal.logistic (row x0 x1 r k) := by
  rw [val_main_v3_apply, val_main_call0_v5_apply, val_main_call0_v4_apply, val_main_call0_v3_apply, val_main_call0_v2_apply, val_main_call0_v1_apply,
    val_main_call0_v0_apply, row_apply]
  show _ * Ideal.div (Ideal.ofBits .f32 0x3F800000#32) (Ideal.ofBits .f32 0x3F800000#32 + _) = _
  rw [Ideal.ofBits_one_f32]
  rfl

/-- The reference's result is the modulation. -/
theorem result_eq : val_main_v8 (F := Ideal) x0 x1 x2 x3 = result x0 x1 x2 x3 := by
  funext i
  obtain ⟨l, r, f, rfl⟩ : ∃ (l : Fin 2) (r : Fin 8) (f : Fin 6144), i = ix3 l r f := ⟨i 0, i 1, i 2, eq_ix3 i⟩
  have et : idx_main_v5 (ix3 l r f) = ix3 l f r := by
    funext a; fin_cases a <;> rfl
  have el : ∀ k, lidx_main_v4 (ix3 l f r) k = ix3 l k f := fun k => by
    funext a; fin_cases a <;> rfl
  have er : ∀ k, ridx_main_v4 (ix3 l f r) k = ix2 r k := fun k => by
    funext a; fin_cases a <;> rfl
  have eb : idx_main_v6 (idx_main_v7 (ix3 l r f)) = ix2 l f := by
    funext a; fin_cases a <;> rfl
  rw [val_main_v8_apply, val_main_v7_apply, val_main_v6_apply, eb, val_main_v5_apply, et, val_main_v4_apply, result_apply]
  simp only [el, er, act_apply]
  unfold entry
  exact congrArg (· + _) (Finset.sum_congr rfl fun k _ => mul_comm _ _)

end Cert.Modulation.Reference

end
-- ==== Proof.Modulation.Claims.lean ====
/- The claims about the modulation. -/
module

public import proofs.«01_k».proof.Defs
public import proofs.«01_k».proof.Proof.Modulation.Value
public import proofs.«01_k».proof.Proof.Modulation.Reference
public import proofs.«01_k».proof.Proof.Gen.Kernel4.Frame

@[expose] public section

noncomputable section

namespace Cert.Modulation.Claims

open Idealize.ShloMosaic Idealize.ShloMosaic.TcCoe Idealize.SL.Sem

theorem frame : Cert.quiescent_Kernel4 := fun m ρ _ => Cert.Kernel4.Gen.frame m ρ

theorem frame_ideal : Cert.quiescent_Kernel4Ideal := fun m ρ _ => Cert.Kernel4Ideal.Gen.frame m ρ

/-- The reference declares no semaphore, so its counters are zero at the end. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's result is the reference's. -/
theorem algebraic : Cert.algebraic_Kernel4Ideal_Reference4Ideal := fun m ρ m' ρ' _ hag =>
  ⟨fun c => out m c, run m ρ,
    (θ_run Cert.Reference4Ideal.defs _ _).mono (fun _ h c => ⟨(h c).1.trans (by
      rw [Cert.Reference4Ideal.Read.val_main_v8_eq, (hag c).1, (hag c).2.1, (hag c).2.2.1, (hag c).2.2.2]
      exact Reference.result_eq _ _ _ _), (h c).2⟩)
      (Cert.Reference4Ideal.Value.run (F := Ideal) m' ρ')⟩

end Cert.Modulation.Claims

end
-- ==== Proof.lean ====
/- The claims about the four calls. -/
module

public import proofs.«01_k».proof.Defs
public import proofs.«01_k».proof.Proof.Experts.Claims
public import proofs.«01_k».proof.Proof.Residual.Claims
public import proofs.«01_k».proof.Proof.Projection.Claims
public import proofs.«01_k».proof.Proof.Modulation.Claims

@[expose] public section

noncomputable section

-- The claims about Kernel, KernelIdeal, ReferenceIdeal also say that every semaphore counter ends at zero; the proof shows that too.

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Pre_finite_nonnegative_gates.Gen.facts,
    Cert.Experts.Claims.frame,
    Cert.Experts.Claims.frame_ideal, fun m ρ _ => Cert.Experts.Claims.frame_ideal m ρ trivial,
    Cert.Experts.Claims.frame_reference, fun m ρ _ => Cert.Experts.Claims.frame_reference m ρ trivial,
    Cert.Residual.Claims.frame, Cert.Residual.Claims.frame_ideal, Cert.Residual.Claims.frame_reference,
    Cert.Projection.Claims.frame, Cert.Projection.Claims.frame_ideal, Cert.Projection.Claims.frame_reference,
    Cert.Modulation.Claims.frame, Cert.Modulation.Claims.frame_ideal, Cert.Modulation.Claims.frame_reference,
    trivial, Cert.Experts.Claims.algebraic,
    trivial, Cert.Residual.Claims.algebraic, trivial, Cert.Projection.Claims.algebraic, trivial, Cert.Modulation.Claims.algebraic⟩

end Cert.Proof

end
